-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x768x9x9 : Shape := ⟨4, ![64, 768, 9, 9]⟩
abbrev S768x768 : Shape := ⟨2, ![768, 768]⟩
abbrev S768 : Shape := ⟨1, ![768]⟩
abbrev S4x192 : Shape := ⟨2, ![4, 192]⟩
abbrev S_ : Shape := ⟨0, ![]⟩

class Facts : Prop where
  bcast_S_S64x768x9x9 : S_.BroadcastsInDim S64x768x9x9 (![] : Fin 0 → Fin S64x768x9x9.rank)
  reducesTo_S64x768x9x9_S_d0_1_2_3 : S64x768x9x9.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S4x192 : S_.BroadcastsInDim S4x192 (![] : Fin 0 → Fin S4x192.rank)
  reducesTo_S4x192_S_d0_1 : S4x192.ReducesTo [0, 1] S_

variable [Facts]

def fn_part2 {F : FTy → Type} [FloatOps F] (main_arg7 : FVec F S4x192 .f32) (main_arg8 : FVec F S768 .f32) (main_arg9 : FVec F S768 .f32) (main_v29 : IVec S_ 1) (main_v32 : IVec S768 1) (main_c_12 : IVec S_ 1) : IVec S_ 1 :=
  let main_v33 : IVec S_ 1 := (fun x v => Host.reduce IntOp.andi x v reducesTo_S768_S_d0 h_S_) main_v32 main_c_12
  let main_v34 : IVec S_ 1 := andi main_v29 main_v33
  let main_v35 : FVec F S4x192 .f32 := Host.absf main_arg7
  let main_cst_13 : FVec F S_ .f32 := constant S_ .f32 0x7F800000#32
  let main_v36 : FVec F S4x192 .f32 := broadcastInDim S4x192 ![] bcast_S_S4x192 main_cst_13
  let main_v37 : IVec S4x192 1 := cmpf .olt main_v35 main_v36
  let main_c_14 : IVec S_ 1 := constantI S_ 1 1#1
  let main_v38 : IVec S_ 1 := (fun x v => Host.reduce IntOp.andi x v reducesTo_S4x192_S_d0_1 h_S_) main_v37 main_c_14
  let main_v39 : IVec S_ 1 := andi main_v34 main_v38
  let main_v40 : FVec F S768 .f32 := Host.absf main_arg8
  let main_cst_15 : FVec F S_ .f32 := constant S_ .f32 0x7F800000#32
  let main_v41 : FVec F S768 .f32 := broadcastInDim S768 ![] bcast_S_S768 main_cst_15
  let main_v42 : IVec S768 1 := cmpf .olt main_v40 main_v41
  let main_c_16 : IVec S_ 1 := constantI S_ 1 1#1
  let main_v43 : IVec S_ 1 := (fun x v => Host.reduce IntOp.andi x v reducesTo_S768_S_d0 h_S_) main_v42 main_c_16
  let main_v44 : IVec S_ 1 := andi main_v39 main_v43
  let main_v45 : FVec F S768 .f32 := Host.absf main_arg9
  let main_cst_17 : FVec F S_ .f32 := constant S_ .f32 0x7F800000#32
  let main_v46 : FVec F S768 .f32 := broadcastInDim S768 ![] bcast_S_S768 main_cst_17
  let main_v47 : IVec S768 1 := cmpf .olt main_v45 main_v46
  let main_c_18 : IVec S_ 1 := constantI S_ 1 1#1
  let main_v48 : IVec S_ 1 := (fun x v => Host.reduce IntOp.andi x v reducesTo_S768_S_d0 h_S_) main_v47 main_c_18
  let main_v49 : IVec S_ 1 := andi main_v44 main_v48
  main_v49

def fn_part1 {F : FTy → Type} [FloatOps F] (main_arg4 : FVec F S768 .f32) (main_arg5 : FVec F S768x768 .f32) (main_arg6 : FVec F S768 .f32) (main_arg7 : FVec F S4x192 .f32) (main_arg8 : FVec F S768 .f32) (main_arg9 : FVec F S768 .f32) (main_v14 : IVec S_ 1) (main_v15 : FVec F S768x768 .f32) (main_cst_5 : FVec F S_ .f32) : IVec S_ 1 :=
  let main_v16 : FVec F S768x768 .f32 := broadcastInDim S768x768 ![] bcast_S_S768x768 main_cst_5
  let main_v17 : IVec S768x768 1 := cmpf .olt main_v15 main_v16
  let main_c_6 : IVec S_ 1 := constantI S_ 1 1#1
  let main_v18 : IVec S_ 1 := (fun x v => Host.reduce IntOp.andi x v reducesTo_S768x768_S_d0_1 h_S_) main_v17 main_c_6
  let main_v19 : IVec S_ 1 := andi main_v14 main_v18
  let main_v20 : FVec F S768 .f32 := Host.absf main_arg4
  let main_cst_7 : FVec F S_ .f32 := constant S_ .f32 0x7F800000#32
  let main_v21 : FVec F S768 .f32 := broadcastInDim S768 ![] bcast_S_S768 main_cst_7
  let main_v22 : IVec S768 1 := cmpf .olt main_v20 main_v21
  let main_c_8 : IVec S_ 1 := constantI S_ 1 1#1
  let main_v23 : IVec S_ 1 := (fun x v => Host.reduce IntOp.andi x v reducesTo_S768_S_d0 h_S_) main_v22 main_c_8
  let main_v24 : IVec S_ 1 := andi main_v19 main_v23
  let main_v25 : FVec F S768x768 .f32 := Host.absf main_arg5
  let main_cst_9 : FVec F S_ .f32 := constant S_ .f32 0x7F800000#32
  let main_v26 : FVec F S768x768 .f32 := broadcastInDim S768x768 ![] bcast_S_S768x768 main_cst_9
  let main_v27 : IVec S768x768 1 := cmpf .olt main_v25 main_v26
  let main_c_10 : IVec S_ 1 := constantI S_ 1 1#1
  let main_v28 : IVec S_ 1 := (fun x v => Host.reduce IntOp.andi x v reducesTo_S768x768_S_d0_1 h_S_) main_v27 main_c_10
  let main_v29 : IVec S_ 1 := andi main_v24 main_v28
  let main_v30 : FVec F S768 .f32 := Host.absf main_arg6
  let main_cst_11 : FVec F S_ .f32 := constant S_ .f32 0x7F800000#32
  let main_v31 : FVec F S768 .f32 := broadcastInDim S768 ![] bcast_S_S768 main_cst_11
  let main_v32 : IVec S768 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S64x768x9x9 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S4x192 .f32) (main_arg8 : FVec F S768 .f32) (main_arg9 : FVec F S768 .f32) : IVec S_ 1 :=
  let main_v0 : FVec F S64x768x9x9 .f32 := Host.absf main_arg0
  let main_cst : FVec F S_ .f32 := constant S_ .f32 0x7F800000#32
  let main_v1 : FVec F S64x768x9x9 .f32 := broadcastInDim S64x768x9x9 ![] bcast_S_S64x768x9x9 main_cst
  let main_v2 : IVec S64x768x9x9 1 := cmpf .olt main_v0 main_v1
  let main_c : IVec S_ 1 := constantI S_ 1 1#1
  let main_v3 : IVec S_ 1 := (fun x v => Host.reduce IntOp.andi x v reducesTo_S64x768x9x9_S_d0_1_2_3 h_S_) main_v2 main_c
  let main_c_0 : IVec S_ 1 := constantI S_ 1 1#1
  let main_v4 : IVec S_ 1 := andi main_c_0 main_v3
  let main_v5 : FVec F S768x768 .f32 := Host.absf main_arg1
  let main_cst_1 : FVec F S_ .f32 := constant S_ .f32 0x7F800000#32
  let main_v6 : FVec F S768x768 .f32 := broadcastInDim S768x768 ![] bcast_S_S768x768 main_cst_1
  let main_v7 : IVec S768x768 1 := cmpf .olt main_v5 main_v6
  let main_c_2 : IVec S_ 1 := constantI S_ 1 1#1
  let main_v8 : IVec S_ 1 := (fun x v => Host.reduce IntOp.andi x v reducesTo_S768x768_S_d0_1 h_S_) main_v7 main_c_2
  let main_v9 : IVec S_ 1 := andi main_v4 main_v8
  let main_v10 : FVec F S768 .f32 := Host.absf main_arg2
  let main_cst_3 : FVec F S_ .f32 := constant S_ .f32 0x7F800000#32
  let main_v11 : FVec F S768 .f32 := broadcastInDim S768 ![] bcast_S_S768 main_cst_3
  let main_v12 : IVec S768 1 := cmpf .olt main_v10 main_v11
  let main_c_4 : IVec S_ 1 := constantI S_ 1 1#1
  let main_v13 : IVec S_ 1 := (fun x v => Host.reduce IntOp.andi x v reducesTo_S768_S_d0 h_S_) main_v12 main_c_4
  let main_v14 : IVec S_ 1 := andi main_v9 main_v13
  let main_v15 : FVec F S768x768 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Kernel.lean ====
abbrev S64x768x9x9 : Shape := ⟨4, ![64, 768, 9, 9]⟩
abbrev S768x768 : Shape := ⟨2, ![768, 768]⟩
abbrev S768 : Shape := ⟨1, ![768]⟩
abbrev S4x192 : Shape := ⟨2, ![4, 192]⟩
abbrev S64x768x81 : Shape := ⟨3, ![64, 768, 81]⟩
abbrev S2304x768 : Shape := ⟨2, ![2304, 768]⟩
abbrev S2304 : Shape := ⟨1, ![2304]⟩
abbrev S2304x1 : Shape := ⟨2, ![2304, 1]⟩
abbrev S4x4 : Shape := ⟨2, ![4, 4]⟩
abbrev S_ : Shape := ⟨0, ![]⟩
abbrev S4x4x1 : Shape := ⟨3, ![4, 4, 1]⟩
abbrev S1x4x192 : Shape := ⟨3, ![1, 4, 192]⟩
abbrev S4x4x192 : Shape := ⟨3, ![4, 4, 192]⟩
abbrev S4x768 : Shape := ⟨2, ![4, 768]⟩
abbrev S8x768 : Shape := ⟨2, ![8, 768]⟩
abbrev S64x768x2 : Shape := ⟨3, ![64, 768, 2]⟩
abbrev S8x768x81 : Shape := ⟨3, ![8, 768, 81]⟩
abbrev S8x768x2 : Shape := ⟨3, ![8, 768, 2]⟩
abbrev S1x768x81 : Shape := ⟨3, ![1, 768, 81]⟩
abbrev S768x81 : Shape := ⟨2, ![768, 81]⟩
abbrev S2304x81 : Shape := ⟨2, ![2304, 81]⟩
abbrev S768x47 : Shape := ⟨2, ![768, 47]⟩
abbrev S768x128 : Shape := ⟨2, ![768, 128]⟩
abbrev S81x81 : Shape := ⟨2, ![81, 81]⟩
abbrev S81 : Shape := ⟨1, ![81]⟩
abbrev S1x81 : Shape := ⟨2, ![1, 81]⟩
abbrev S81x1 : Shape := ⟨2, ![81, 1]⟩
abbrev S1x47 : Shape := ⟨2, ![1, 47]⟩
abbrev S1x128 : Shape := ⟨2, ![1, 128]⟩
abbrev S1x1152 : Shape := ⟨2, ![1, 1152]⟩
abbrev S81x1152 : Shape := ⟨2, ![81, 1152]⟩
abbrev S768x1152 : Shape := ⟨2, ![768, 1152]⟩
abbrev S8x128 : Shape := ⟨2, ![8, 128]⟩
abbrev S4x128 : Shape := ⟨2, ![4, 128]⟩
abbrev S81x128 : Shape := ⟨2, ![81, 128]⟩
abbrev S192x81 : Shape := ⟨2, ![192, 81]⟩
abbrev S192x128 : Shape := ⟨2, ![192, 128]⟩
abbrev S768x1 : Shape := ⟨2, ![768, 1]⟩
abbrev S768x2 : Shape := ⟨2, ![768, 2]⟩
abbrev S1x768x2 : Shape := ⟨3, ![1, 768, 2]⟩

abbrev nBuf : Space → Nat
  | .hbm => 39
  | .vmem => 19
  | .smem => 0
  | _ => 0

abbrev bufTy : (tb : Table) → Fin (tcTables nBuf tb) → BufTy
  | .hbm, ⟨0, _⟩ => ⟨S64x768x9x9, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S4x192, .f32⟩
  | .hbm, ⟨8, _⟩ => ⟨S768, .f32⟩
  | .hbm, ⟨9, _⟩ => ⟨S768, .f32⟩
  | .hbm, ⟨10, _⟩ => ⟨S64x768x81, .f32⟩
  | .hbm, ⟨11, _⟩ => ⟨S2304x768, .f32⟩
  | .hbm, ⟨12, _⟩ => ⟨S2304x768, .bf16⟩
  | .hbm, ⟨13, _⟩ => ⟨S2304, .f32⟩
  | .hbm, ⟨14, _⟩ => ⟨S2304x1, .f32⟩
  | .hbm, ⟨15, _⟩ => ⟨S4x4, .i32⟩
  | .hbm, ⟨16, _⟩ => ⟨S4x4, .i32⟩
  | .hbm, ⟨17, _⟩ => ⟨S_, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S4x4x1, .f32⟩
  | .hbm, ⟨23, _⟩ => ⟨S1x4x192, .f32⟩
  | .hbm, ⟨24, _⟩ => ⟨S4x4x192, .f32⟩
  | .hbm, ⟨25, _⟩ => ⟨S4x4x192, .f32⟩
  | .hbm, ⟨26, _⟩ => ⟨S4x4x192, .f32⟩
  | .hbm, ⟨27, _⟩ => ⟨S4x768, .f32⟩
  | .hbm, ⟨28, _⟩ => ⟨S4x768, .bf16⟩
  | .hbm, ⟨29, _⟩ => ⟨S4x768, .f32⟩
  | .hbm, ⟨30, _⟩ => ⟨S4x768, .f32⟩
  | .hbm, ⟨31, _⟩ => ⟨S4x768, .bf16⟩
  | .hbm, ⟨32, _⟩ => ⟨S8x768, .bf16⟩
  | .hbm, ⟨33, _⟩ => ⟨S64x768x81, .f32⟩
  | .hbm, ⟨34, _⟩ => ⟨S64x768x2, .f32⟩
  | .hbm, ⟨35, _⟩ => ⟨S768x1, .f32⟩
  | .hbm, ⟨36, _⟩ => ⟨S768x1, .f32⟩
  | .hbm, ⟨37, _⟩ => ⟨S64x768x81, .f32⟩
  | .hbm, ⟨38, _⟩ => ⟨S64x768x9x9, .f32⟩
  | .local _ .vmem, ⟨0, _⟩ => ⟨S8x768x81, .f32⟩
  | .local _ .vmem, ⟨1, _⟩ => ⟨S8x768x81, .f32⟩
  | .local _ .vmem, ⟨2, _⟩ => ⟨S2304x768, .bf16⟩
  | .local _ .vmem, ⟨3, _⟩ => ⟨S2304x1, .f32⟩
  | .local _ .vmem, ⟨4, _⟩ => ⟨S8x768, .bf16⟩
  | .local _ .vmem, ⟨5, _⟩ => ⟨S8x768x81, .f32⟩
  | .local _ .vmem, ⟨6, _⟩ => ⟨S8x768x81, .f32⟩
  | .local _ .vmem, ⟨7, _⟩ => ⟨S8x768x2, .f32⟩
  | .local _ .vmem, ⟨8, _⟩ => ⟨S8x768x2, .f32⟩
  | .local _ .vmem, ⟨9, _⟩ => ⟨S8x768x81, .f32⟩
  | .local _ .vmem, ⟨10, _⟩ => ⟨S8x768x81, .f32⟩
  | .local _ .vmem, ⟨11, _⟩ => ⟨S64x768x2, .f32⟩
  | .local _ .vmem, ⟨12, _⟩ => ⟨S8x768x81, .f32⟩
  | .local _ .vmem, ⟨13, _⟩ => ⟨S8x768x81, .f32⟩
  | .local _ .vmem, ⟨14, _⟩ => ⟨S768x1, .f32⟩
  | .local _ .vmem, ⟨15, _⟩ => ⟨S768x1, .f32⟩
  | .local _ .vmem, ⟨16, _⟩ => ⟨S8x768x81, .f32⟩
  | .local _ .vmem, ⟨17, _⟩ => ⟨S8x768x81, .f32⟩
  | .local _ .vmem, ⟨18, _⟩ => ⟨S768x2, .f32⟩
  | _, _ => ⟨S64x768x9x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x768x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x768x81 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x768x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x768x81 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x768x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x768x81 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x768x81 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "big" => some ⊤
  | _ => none
-- ==== ReferenceIdeal.lean ====
abbrev S64x768x9x9 : Shape := ⟨4, ![64, 768, 9, 9]⟩
abbrev S768x768 : Shape := ⟨2, ![768, 768]⟩
abbrev S768 : Shape := ⟨1, ![768]⟩
abbrev S4x192 : Shape := ⟨2, ![4, 192]⟩
abbrev S64x768x81 : Shape := ⟨3, ![64, 768, 81]⟩
abbrev S64x81x768 : Shape := ⟨3, ![64, 81, 768]⟩
abbrev S_ : Shape := ⟨0, ![]⟩
abbrev S64x81 : Shape := ⟨2, ![64, 81]⟩
abbrev S64x81x1 : Shape := ⟨3, ![64, 81, 1]⟩
abbrev S64x1x81 : Shape := ⟨3, ![64, 1, 81]⟩
abbrev S64x81x81 : Shape := ⟨3, ![64, 81, 81]⟩
abbrev S64x81x9 : Shape := ⟨3, ![64, 81, 9]⟩
abbrev S64x81x9x1 : Shape := ⟨4, ![64, 81, 9, 1]⟩
abbrev S64x81x9x768 : Shape := ⟨4, ![64, 81, 9, 768]⟩
abbrev S1x1x768 : Shape := ⟨3, ![1, 1, 768]⟩
abbrev S64x81x1x768 : Shape := ⟨4, ![64, 81, 1, 768]⟩
abbrev S1x1x1x768 : Shape := ⟨4, ![1, 1, 1, 768]⟩
abbrev S64x81x9x4x192 : Shape := ⟨5, ![64, 81, 9, 4, 192]⟩
abbrev S1x1x1x4x192 : Shape := ⟨5, ![1, 1, 1, 4, 192]⟩
abbrev S64x81x9x4 : Shape := ⟨4, ![64, 81, 9, 4]⟩
abbrev S64x81x4 : Shape := ⟨3, ![64, 81, 4]⟩
abbrev S64x81x1x4 : Shape := ⟨4, ![64, 81, 1, 4]⟩
abbrev S64x81x9x4x1 : Shape := ⟨5, ![64, 81, 9, 4, 1]⟩
abbrev S64x81x4x192 : Shape := ⟨4, ![64, 81, 4, 192]⟩
abbrev S1x768x1x1 : Shape := ⟨4, ![1, 768, 1, 1]⟩

abbrev nBuf : Space → Nat
  | .hbm => 144
  | .vmem => 0
  | .smem => 0
  | _ => 0

abbrev hbmTy0_0 (i : Nat) : BufTy := match i % 128 with
  | 0 => ⟨S64x768x9x9, .f32⟩
  | 1 => ⟨S768x768, .f32⟩
  | 2 => ⟨S768, .f32⟩
  | 3 => ⟨S768x768, .f32⟩
  | 4 => ⟨S768, .f32⟩
  | 5 => ⟨S768x768, .f32⟩
  | 6 => ⟨S768, .f32⟩
  | 7 => ⟨S4x192, .f32⟩
  | 8 => ⟨S768, .f32⟩
  | 9 => ⟨S768, .f32⟩
  | 10 => ⟨S64x768x81, .f32⟩
  | 11 => ⟨S64x81x768, .f32⟩
  | 12 => ⟨S64x81x768, .f32⟩
  | 13 => ⟨S_, .f32⟩
  | 14 => ⟨S64x81, .f32⟩
  | 15 => ⟨S64x81x1, .f32⟩
  | 16 => ⟨S64x1x81, .f32⟩
  | 17 => ⟨S64x81x81, .f32⟩
  | 18 => ⟨S64x81x81, .f32⟩
  | 19 => ⟨S64x81x81, .f32⟩
  | 20 => ⟨S64x81x81, .f32⟩
  | 21 => ⟨S_, .f32⟩
  | 22 => ⟨S64x81x81, .f32⟩
  | 23 => ⟨S64x81x81, .f32⟩
  | 24 => ⟨S64x81x81, .f32⟩
  | 25 => ⟨S_, .f32⟩
  | 26 => ⟨S64x81x81, .f32⟩
  | 27 => ⟨S64x81x81, .f32⟩
  | 28 => ⟨S64x81x81, .f32⟩
  | 29 => ⟨S64x81x81, .f32⟩
  | 30 => ⟨S64x81x9, .f32⟩
  | 31 => ⟨S64x81x9, .i32⟩
  | 32 => ⟨S_, .i32⟩
  | 33 => ⟨S64x81x9, .i32⟩
  | 34 => ⟨S64x81x9, .i1⟩
  | 35 => ⟨S_, .i32⟩
  | 36 => ⟨S64x81x9, .i32⟩
  | 37 => ⟨S64x81x9, .i32⟩
  | 38 => ⟨S64x81x9, .i32⟩
  | 39 => ⟨S64x81x9x1, .i32⟩
  | 40 => ⟨S64x81x9x768, .f32⟩
  | 41 => ⟨S768x768, .f32⟩
  | 42 => ⟨S64x81x768, .f32⟩
  | 43 => ⟨S1x1x768, .f32⟩
  | 44 => ⟨S64x81x768, .f32⟩
  | 45 => ⟨S64x81x768, .f32⟩
  | 46 => ⟨S64x81x1x768, .f32⟩
  | 47 => ⟨S768x768, .f32⟩
  | 48 => ⟨S64x81x9x768, .f32⟩
  | 49 => ⟨S1x1x1x768, .f32⟩
  | 50 => ⟨S64x81x9x768, .f32⟩
  | 51 => ⟨S64x81x9x768, .f32⟩
  | 52 => ⟨S64x81x9x768, .f32⟩
  | 53 => ⟨S64x81x9x768, .f32⟩
  | 54 => ⟨S_, .f32⟩
  | 55 => ⟨S_, .f32⟩
  | 56 => ⟨S64x81x9x768, .f32⟩
  | 57 => ⟨S64x81x9x768, .i1⟩
  | 58 => ⟨S_, .f32⟩
  | 59 => ⟨S64x81x9x768, .f32⟩
  | 60 => ⟨S64x81x9x768, .f32⟩
  | 61 => ⟨S64x81x9x768, .f32⟩
  | 62 => ⟨S64x81x9x4x192, .f32⟩
  | 63 => ⟨S1x1x1x4x192, .f32⟩
  | 64 => ⟨S64x81x9x4x192, .f32⟩
  | 65 => ⟨S64x81x9x4x192, .f32⟩
  | 66 => ⟨S_, .f32⟩
  | 67 => ⟨S64x81x9x4, .f32⟩
  | 68 => ⟨S_, .f32⟩
  | 69 => ⟨S64x81x4, .f32⟩
  | 70 => ⟨S_, .f32⟩
  | 71 => ⟨S64x81x4, .f32⟩
  | 72 => ⟨S64x81x4, .f32⟩
  | 73 => ⟨S64x81x1x4, .f32⟩
  | 74 => ⟨S64x81x9x4, .f32⟩
  | 75 => ⟨S64x81x9x4, .f32⟩
  | 76 => ⟨S64x81x9x4, .f32⟩
  | 77 => ⟨S_, .f32⟩
  | 78 => ⟨S64x81x4, .f32⟩
  | 79 => ⟨S64x81x1x4, .f32⟩
  | 80 => ⟨S64x81x9x4, .f32⟩
  | 81 => ⟨S64x81x9x4, .f32⟩
  | 82 => ⟨S64x81x9x4x1, .f32⟩
  | 83 => ⟨S768x768, .f32⟩
  | 84 => ⟨S64x81x9x768, .f32⟩
  | 85 => ⟨S1x1x1x768, .f32⟩
  | 86 => ⟨S64x81x9x768, .f32⟩
  | 87 => ⟨S64x81x9x768, .f32⟩
  | 88 => ⟨S64x81x9x4x192, .f32⟩
  | 89 => ⟨S64x81x9x4x192, .f32⟩
  | 90 => ⟨S64x81x9x4x192, .f32⟩
  | 91 => ⟨S_, .f32⟩
  | 92 => ⟨S64x81x4x192, .f32⟩
  | 93 => ⟨S64x81x768, .f32⟩
  | 94 => ⟨S64x768x81, .f32⟩
  | 95 => ⟨S64x768x9x9, .f32⟩
  | 96 => ⟨S_, .f32⟩
  | 97 => ⟨S768, .f32⟩
  | 98 => ⟨S_, .f32⟩
  | 99 => ⟨S768, .f32⟩
  | 100 => ⟨S768, .f32⟩
  | 101 => ⟨S_, .i32⟩
  | 102 => ⟨S_, .f32⟩
  | 103 => ⟨S768, .f32⟩
  | 104 => ⟨S1x768x1x1, .f32⟩
  | 105 => ⟨S_, .f32⟩
  | 106 => ⟨S1x768x1x1, .f32⟩
  | 107 => ⟨S1x768x1x1, .f32⟩
  | 108 => ⟨S64x768x9x9, .f32⟩
  | 109 => ⟨S64x768x9x9, .f32⟩
  | 110 => ⟨S64x768x9x9, .f32⟩
  | 111 => ⟨S_, .f32⟩
  | 112 => ⟨S_, .f32⟩
  | 113 => ⟨S_, .f32⟩
  | 114 => ⟨S_, .f32⟩
  | 115 => ⟨S768, .f32⟩
  | 116 => ⟨S768, .f32⟩
  | 117 => ⟨S768, .f32⟩
  | 118 => ⟨S_, .f32⟩
  | 119 => ⟨S_, .i1⟩
  | 120 => ⟨S_, .f32⟩
  | 121 => ⟨S_, .f32⟩
  | 122 => ⟨S768, .f32⟩
  | 123 => ⟨S768, .f32⟩
  | 124 => ⟨S1x768x1x1, .f32⟩
  | 125 => ⟨S64x768x9x9, .f32⟩
  | 126 => ⟨S64x768x9x9, .f32⟩
  | 127 => ⟨S1x768x1x1, .f32⟩
  | _ => ⟨S64x768x9x9, .f32⟩

abbrev hbmTy0_1 (i : Nat) : BufTy := match i % 128 with
  | 0 => ⟨S_, .f32⟩
  | 1 => ⟨S1x768x1x1, .f32⟩
  | 2 => ⟨S1x768x1x1, .f32⟩
  | 3 => ⟨S1x768x1x1, .f32⟩
  | 4 => ⟨S64x768x9x9, .f32⟩
  | 5 => ⟨S64x768x9x9, .f32⟩
  | 6 => ⟨S1x768x1x1, .f32⟩
  | 7 => ⟨S64x768x9x9, .f32⟩
  | 8 => ⟨S64x768x9x9, .f32⟩
  | 9 => ⟨S1x768x1x1, .f32⟩
  | 10 => ⟨S64x768x9x9, .f32⟩
  | 11 => ⟨S64x768x9x9, .f32⟩
  | 12 => ⟨S64x768x9x9, .f32⟩
  | 13 => ⟨S_, .f32⟩
  | 14 => ⟨S64x768x9x9, .f32⟩
  | 15 => ⟨S64x768x9x9, .f32⟩
  | _ => ⟨S64x768x9x9, .f32⟩

abbrev hbmTy (i : Nat) : BufTy := match i / 128 with
  | 0 => hbmTy0_0 i
  | 1 => hbmTy0_1 i
  | _ => ⟨S64x768x9x9, .f32⟩

abbrev bufTy : (tb : Table) → Fin (tcTables nBuf tb) → BufTy
  | .hbm, ⟨i, _⟩ => hbmTy i
  | _, _ => ⟨S64x768x9x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_values : Ref sig .tc := ⟨.hbm, 30, rfl⟩
abbrev main_indices : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_c_11 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_12 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call2_cst : Ref sig .tc := ⟨.hbm, 141, rfl⟩
abbrev main_call2_v0 : Ref sig .tc := ⟨.hbm, 142, rfl⟩
abbrev main_v87 : Ref sig .tc := ⟨.hbm, 143, rfl⟩

abbrev nD : Nat := 1
abbrev τ : Topo := Topo.v7x

variable {F : FTy → Type} [FloatOps F]
-- ==== Proof.Sample.lean ====
/-
  One sample of the attention kernel as a composition of named stages, over any float carrier.

  The kernel's body handles eight samples one after the other by the same operations. Here those operations are
  written once, as functions of the sample's block `x` (768 channels by 81 tokens), the stacked projection weights `w`
  and biases `b`, the two-row-split score matrix `a2` and the value `big` a chosen distance is replaced by.
-/
module

public import proofs.«01_k».proof.Proof.Gen.KernelIdeal

@[expose] public section

noncomputable section

namespace Cert.Attn

open Cert.KernelIdeal Cert.KernelIdeal.Gen
open Idealize.ShloMosaic Idealize.SL.Sem

variable {F : FTy → Type} [FloatOps F]

/-- The three projections of every token, stacked: `w · x + b`. -/
def proj (w : FVec F S2304x768 .bf16) (b : FVec F S2304x1 .f32) (x : FVec F S768x81 .f32) : FVec F S2304x81 .f32 :=
  addf (matmul dot_S2304x768_S768x81_S2304x81_1_0_0_1_n_n none w (truncf .bf16 x bitsLt_bf16_f32) (constant S2304x81 .f32 0x00000000#32))
    (broadcastTo S2304x81 b broadcasts_S2304x1_S2304x81)

/-- The query projection, padded with zero columns to 128. -/
def qPad (p : FVec F S2304x81 .f32) : FVec F S768x128 .f32 :=
  concatenate S768x128 1 [⟨S768x81, extractStridedSlice S768x81 ![0, 0] p slices_S2304x81_o0_0_S768x81⟩,
    ⟨S768x47, broadcast S768x47 (Scalar.ofBits .f32 0x00000000#32 : F .f32)⟩] concatenates_S768x81_S768x47_S768x128_d1
/-- The key projection. -/
def kPart (p : FVec F S2304x81 .f32) : FVec F S768x81 .f32 := extractStridedSlice S768x81 ![768, 0] p slices_S2304x81_o768_0_S768x81
/-- The value projection. -/
def vPart (p : FVec F S2304x81 .f32) : FVec F S768x81 .f32 := extractStridedSlice S768x81 ![1536, 0] p slices_S2304x81_o1536_0_S768x81

/-- The column numbers. -/
def colI : IVec S81x81 32 := iota .tc S81x81 32 [1] iota_S81x81_d1_w32
/-- The identity matrix. -/
def eyeM : FVec F S81x81 .f32 :=
  sitofp .f32 (extui 32 (cmpi .eq (iota .tc S81x81 32 [0] iota_S81x81_d0_w32) colI) natLt_1_32)

/-- Every token's squared length, as a row. -/
def sqRow (x : FVec F S768x81 .f32) : FVec F S1x81 .f32 :=
  shapeCast S1x81 (multiReduction .add [0] S81 (mulf x x) 0x00000000#32 reduces_S768x81_S81 (.inl rfl) rfl) shapeCasts_S81_S1x81
/-- Every token's squared length, as a column: the identity times the row, summed. -/
def sqCol (x : FVec F S768x81 .f32) : FVec F S81x1 .f32 :=
  shapeCast S81x1 (multiReduction .add [1] S81 (mulf eyeM (broadcastTo S81x81 (sqRow x) broadcasts_S1x81_S81x81)) 0x00000000#32
    reduces_S81x81_S81 (.inl rfl) rfl) shapeCasts_S81_S81x1
/-- The token inner products. -/
def gram (x : FVec F S768x81 .f32) : FVec F S81x81 .f32 :=
  matmul dot_S768x81_S768x81_S81x81_0_0_1_1_n_n none (truncf .bf16 x bitsLt_bf16_f32) (truncf .bf16 x bitsLt_bf16_f32)
    (constant S81x81 .f32 0x00000000#32)
/-- The distances between tokens. -/
def dist (x : FVec F S768x81 .f32) : FVec F S81x81 .f32 :=
  sqrt (maximumf (subf (addf (broadcastTo S81x81 (sqCol x) broadcasts_S81x1_S81x81) (broadcastTo S81x81 (sqRow x) broadcasts_S1x81_S81x81))
    (mulf (broadcast S81x81 (Scalar.ofBits .f32 0x40000000#32 : F .f32)) (gram x))) (broadcast S81x81 (Scalar.ofBits .f32 0x00000000#32 : F .f32)))

/-- Per row the lowest column holding the row's least entry. -/
def rowSel (d : FVec F S81x81 .f32) : IVec S81x1 32 :=
  shapeCast S81x1 (multiReductionI .minsi [1] S81
    (select (cmpf .oeq d (broadcastTo S81x81 (shapeCast S81x1 (multiReduction .minimumf [1] S81 d 0x7F800000#32 reduces_S81x81_S81 (.inl rfl) rfl)
      shapeCasts_S81_S81x1) broadcasts_S81x1_S81x81)) colI (broadcast S81x81 (10000#32 : BitVec 32)))
    2147483647#32 reduces_S81x81_S81 rfl) shapeCasts_S81_S81x1
/-- The distances with each row's chosen column replaced by `big`. -/
def knock (big : F .f32) (d : FVec F S81x81 .f32) : FVec F S81x81 .f32 :=
  select (cmpi .eq colI (broadcastTo S81x81 (rowSel d) broadcasts_S81x1_S81x81)) (broadcast S81x81 big) d
/-- The distances after `n` rounds of choosing. -/
def rounds (big : F .f32) (d : FVec F S81x81 .f32) : ℕ → FVec F S81x81 .f32
  | 0 => d
  | n + 1 => knock big (rounds big d n)
/-- The chosen columns as a row (through the identity, converted to float and back), padded with 10000 to 128. -/
def selT (d : FVec F S81x81 .f32) : IVec S1x128 32 :=
  concatenate S1x128 1 [⟨S1x81, fptosi 32 (shapeCast S1x81 (multiReduction .add [0] S81
      (mulf eyeM (broadcastTo S81x81 (sitofp .f32 (rowSel d) : FVec F S81x1 .f32) broadcasts_S81x1_S81x81)) 0x00000000#32
      reduces_S81x81_S81_2 (.inl rfl) rfl) shapeCasts_S81_S1x81)⟩,
    ⟨S1x47, broadcast S1x47 (10000#32 : BitVec 32)⟩] concatenates_S1x81_S1x47_S1x128_d1

/-- Where token `r` is the one chosen: nine panels of 128 columns, one per round. -/
def oneHot (big : F .f32) (d : FVec F S81x81 .f32) : IVec S81x1152 1 :=
  cmpi .eq (iota .tc S81x1152 32 [0] iota_S81x1152_d0_w32)
    (broadcastTo S81x1152 (concatenate S1x1152 1 [⟨S1x128, selT (rounds big d 0)⟩, ⟨S1x128, selT (rounds big d 1)⟩, ⟨S1x128, selT (rounds big d 2)⟩,
      ⟨S1x128, selT (rounds big d 3)⟩, ⟨S1x128, selT (rounds big d 4)⟩, ⟨S1x128, selT (rounds big d 5)⟩, ⟨S1x128, selT (rounds big d 6)⟩,
      ⟨S1x128, selT (rounds big d 7)⟩, ⟨S1x128, selT (rounds big d 8)⟩]
      concatenates_S1x128_S1x128_S1x128_S1x128_S1x128_S1x128_S1x128_S1x128_S1x128_S1x1152_d1) broadcasts_S1x1152_S81x1152)

/-- What rounding to bfloat16 leaves over, rounded. -/
def lowPart {S : Shape} (v : FVec F S .f32) : FVec F S .bf16 :=
  truncf .bf16 (subf v (extf .f32 (truncf .bf16 v bitsLt_bf16_f32) bitsLt_bf16_f32)) bitsLt_bf16_f32

/-- The chosen tokens' keys: the product with the one-hot panels, high and low part. -/
def gathered (k : FVec F S768x81 .f32) (oh : IVec S81x1152 1) : FVec F S768x1152 .f32 :=
  addf (matmul dot_S768x81_S81x1152_S768x1152_1_0_0_1_n_n none (truncf .bf16 k bitsLt_bf16_f32)
      (truncf .bf16 (sitofp .f32 (extui 32 oh natLt_1_32) : FVec F S81x1152 .f32) bitsLt_bf16_f32) (constant S768x1152 .f32 0x00000000#32))
    (matmul dot_S768x81_S81x1152_S768x1152_1_0_0_1_n_n none (lowPart k)
      (truncf .bf16 (sitofp .f32 (extui 32 oh natLt_1_32) : FVec F S81x1152 .f32) bitsLt_bf16_f32) (constant S768x1152 .f32 0x00000000#32))

/-- Query plus key through the leaky rectifier. -/
def leaky (c : FVec F S768x128 .f32) : FVec F S768x128 .f32 :=
  select (cmpf .oge c (broadcast S768x128 (Scalar.ofBits .f32 0x00000000#32 : F .f32))) c
    (mulf (broadcast S768x128 (Scalar.ofBits .f32 0x3E4CCCCD#32 : F .f32)) c)

/-- The four heads' scores of one panel. -/
def scoreOf (a2 : FVec F S8x768 .bf16) (c : FVec F S768x128 .f32) : FVec F S4x128 .f32 :=
  addf (addf (extractStridedSlice S4x128 ![0, 0]
        (matmul dot_S8x768_S768x128_S8x128_1_0_0_1_n_n none a2 (truncf .bf16 c bitsLt_bf16_f32) (constant S8x128 .f32 0x00000000#32)) slices_S8x128_o0_0_S4x128)
      (extractStridedSlice S4x128 ![4, 0]
        (matmul dot_S8x768_S768x128_S8x128_1_0_0_1_n_n none a2 (truncf .bf16 c bitsLt_bf16_f32) (constant S8x128 .f32 0x00000000#32)) slices_S8x128_o4_0_S4x128))
    (extractStridedSlice S4x128 ![0, 0]
      (matmul dot_S8x768_S768x128_S8x128_1_0_0_1_n_n none a2 (lowPart c) (constant S8x128 .f32 0x00000000#32)) slices_S8x128_o0_0_S4x128)

/-- The scores of the panel whose first column is `o`. -/
def score (a2 : FVec F S8x768 .bf16) (q : FVec F S768x128 .f32) (kg : FVec F S768x1152 .f32) (o : ℕ) (h : S768x1152.Slices ![0, o] S768x128) :
    FVec F S4x128 .f32 :=
  scoreOf a2 (leaky (addf q (extractStridedSlice S768x128 ![0, o] kg h)))

/-- One value per round, of the nine. -/
structure Nine (α : Type) where
  (v0 v1 v2 v3 v4 v5 v6 v7 v8 : α)

/-- The nine rounds' scores. -/
def scores (a2 : FVec F S8x768 .bf16) (q : FVec F S768x128 .f32) (kg : FVec F S768x1152 .f32) : Nine (FVec F S4x128 .f32) :=
  ⟨score a2 q kg 0 slices_S768x1152_o0_0_S768x128, score a2 q kg 128 slices_S768x1152_o0_128_S768x128, score a2 q kg 256 slices_S768x1152_o0_256_S768x128,
   score a2 q kg 384 slices_S768x1152_o0_384_S768x128, score a2 q kg 512 slices_S768x1152_o0_512_S768x128, score a2 q kg 640 slices_S768x1152_o0_640_S768x128,
   score a2 q kg 768 slices_S768x1152_o0_768_S768x128, score a2 q kg 896 slices_S768x1152_o0_896_S768x128, score a2 q kg 1024 slices_S768x1152_o0_1024_S768x128⟩

/-- The nine values folded from the left. -/
def Nine.fold {α : Type} (f : α → α → α) (s : Nine α) : α :=
  f (f (f (f (f (f (f (f s.v0 s.v1) s.v2) s.v3) s.v4) s.v5) s.v6) s.v7) s.v8
/-- A function of each. -/
def Nine.map {α β : Type} (f : α → β) (s : Nine α) : Nine β :=
  ⟨f s.v0, f s.v1, f s.v2, f s.v3, f s.v4, f s.v5, f s.v6, f s.v7, f s.v8⟩

/-- The exponentials of the scores less their maximum. -/
def exps (s : Nine (FVec F S4x128 .f32)) : Nine (FVec F S4x128 .f32) := s.map fun v => exp (subf v (s.fold maximumf))
/-- One over the sum of the exponentials. -/
def invDenom (e : Nine (FVec F S4x128 .f32)) : FVec F S4x128 .f32 :=
  divf (broadcast S4x128 (Scalar.ofBits .f32 0x3F800000#32 : F .f32)) (e.fold addf)

/-- One round's contribution to head `h`'s attention matrix: the panel of the one-hot matrix times the round's weights. -/
def attTerm (h : ℕ) (hh : S4x128.Slices ![h, 0] S1x128) (inv : FVec F S4x128 .f32) (oh : IVec S81x1152 1) (o : ℕ) (ho : S81x1152.Slices ![0, o] S81x128)
    (e : FVec F S4x128 .f32) : FVec F S81x128 .f32 :=
  mulf (sitofp .f32 (extui 32 (extractStridedSlice S81x128 ![0, o] oh ho) natLt_1_32))
    (broadcastTo S81x128 (mulf (extractStridedSlice S1x128 ![h, 0] e hh) (extractStridedSlice S1x128 ![h, 0] inv hh)) broadcasts_S1x128_S81x128)

/-- Head `h`'s attention matrix: token by query. -/
def att (h : ℕ) (hh : S4x128.Slices ![h, 0] S1x128) (inv : FVec F S4x128 .f32) (oh : IVec S81x1152 1) (e : Nine (FVec F S4x128 .f32)) : FVec F S81x128 .f32 :=
  Nine.fold addf ⟨addf (broadcast S81x128 (Scalar.ofBits .f32 0x00000000#32 : F .f32))
      (attTerm h hh inv oh 0 slices_S81x1152_o0_0_S81x128 e.v0),
    attTerm h hh inv oh 128 slices_S81x1152_o0_128_S81x128 e.v1, attTerm h hh inv oh 256 slices_S81x1152_o0_256_S81x128 e.v2,
    attTerm h hh inv oh 384 slices_S81x1152_o0_384_S81x128 e.v3, attTerm h hh inv oh 512 slices_S81x1152_o0_512_S81x128 e.v4,
    attTerm h hh inv oh 640 slices_S81x1152_o0_640_S81x128 e.v5, attTerm h hh inv oh 768 slices_S81x1152_o0_768_S81x128 e.v6,
    attTerm h hh inv oh 896 slices_S81x1152_o0_896_S81x128 e.v7, attTerm h hh inv oh 1024 slices_S81x1152_o0_1024_S81x128 e.v8⟩

/-- Head `h`'s output: the value projection's rows of the head (from row `o`) times the attention matrix, in three products. -/
def headOut (v : FVec F S768x81 .f32) (o : ℕ) (ho : S768x81.Slices ![o, 0] S192x81) (at_ : FVec F S81x128 .f32) : FVec F S192x128 .f32 :=
  addf (addf
      (matmul dot_S192x81_S81x128_S192x128_1_0_0_1_n_n none (extractStridedSlice S192x81 ![o, 0] (truncf .bf16 v bitsLt_bf16_f32) ho)
        (truncf .bf16 at_ bitsLt_bf16_f32) (constant S192x128 .f32 0x00000000#32))
      (matmul dot_S192x81_S81x128_S192x128_1_0_0_1_n_n none (extractStridedSlice S192x81 ![o, 0] (lowPart v) ho)
        (truncf .bf16 at_ bitsLt_bf16_f32) (constant S192x128 .f32 0x00000000#32)))
    (matmul dot_S192x81_S81x128_S192x128_1_0_0_1_n_n none (extractStridedSlice S192x81 ![o, 0] (truncf .bf16 v bitsLt_bf16_f32) ho)
      (lowPart at_) (constant S192x128 .f32 0x00000000#32))

/-- The four heads' outputs stacked, the padding columns dropped. -/
def merge (v : FVec F S768x81 .f32) (oh : IVec S81x1152 1) (e : Nine (FVec F S4x128 .f32)) : FVec F S768x81 .f32 :=
  extractStridedSlice S768x81 ![0, 0] (concatenate S768x128 0
    [⟨S192x128, headOut v 0 slices_S768x81_o0_0_S192x81 (att 0 slices_S4x128_o0_0_S1x128 (invDenom e) oh e)⟩,
     ⟨S192x128, headOut v 192 slices_S768x81_o192_0_S192x81 (att 1 slices_S4x128_o1_0_S1x128 (invDenom e) oh e)⟩,
     ⟨S192x128, headOut v 384 slices_S768x81_o384_0_S192x81 (att 2 slices_S4x128_o2_0_S1x128 (invDenom e) oh e)⟩,
     ⟨S192x128, headOut v 576 slices_S768x81_o576_0_S192x81 (att 3 slices_S4x128_o3_0_S1x128 (invDenom e) oh e)⟩]
    concatenates_S192x128_S192x128_S192x128_S192x128_S768x128_d0) slices_S768x128_o0_0_S768x81

/-- The sample's attention output. -/
def attn (big : F .f32) (w : FVec F S2304x768 .bf16) (b : FVec F S2304x1 .f32) (a2 : FVec F S8x768 .bf16) (x : FVec F S768x81 .f32) :
    FVec F S768x81 .f32 :=
  merge (vPart (proj w b x)) (oneHot big (dist x))
    (exps (scores a2 (qPad (proj w b x)) (gathered (kPart (proj w b x)) (oneHot big (dist x)))))

/-- The sample's channel sums and sums of squares, side by side. -/
def statsOf (o : FVec F S768x81 .f32) : FVec F S768x2 .f32 :=
  concatenate S768x2 1
    [⟨S768x1, shapeCast S768x1 (multiReduction .add [1] S768 o 0x00000000#32 reduces_S768x81_S768 (.inl rfl) rfl) shapeCasts_S768_S768x1⟩,
     ⟨S768x1, shapeCast S768x1 (multiReduction .add [1] S768 (mulf o o) 0x00000000#32 reduces_S768x81_S768 (.inl rfl) rfl) shapeCasts_S768_S768x1⟩]
    concatenates_S768x1_S768x1_S768x2_d1

/-- The channel sums over all samples. -/
def totals (st : FVec F S64x768x2 .f32) : FVec F S768x2 .f32 :=
  multiReduction .add [0] S768x2 st 0x00000000#32 reduces_S64x768x2_S768x2 (.inl rfl) rfl
/-- The channel means. -/
def meanOf (t : FVec F S768x2 .f32) : FVec F S768x1 .f32 :=
  divf (extractStridedSlice S768x1 ![0, 0] t slices_S768x2_o0_0_S768x1) (broadcast S768x1 (Scalar.ofBits .f32 0x45A20000#32 : F .f32))
/-- The channel means of the squares. -/
def msqOf (t : FVec F S768x2 .f32) : FVec F S768x1 .f32 :=
  divf (extractStridedSlice S768x1 ![0, 1] t slices_S768x2_o0_1_S768x1) (broadcast S768x1 (Scalar.ofBits .f32 0x45A20000#32 : F .f32))
/-- The channel scales: `gamma` over the square root of the variance plus the small constant. -/
def scaleOf (t : FVec F S768x2 .f32) (g : FVec F S768x1 .f32) : FVec F S768x1 .f32 :=
  mulf g (rsqrt (addf (subf (msqOf t) (mulf (meanOf t) (meanOf t))) (broadcast S768x1 (Scalar.ofBits .f32 0x3727C5AC#32 : F .f32))))
/-- Every channel's scale and shift of the normalisation, side by side, from all samples' channel sums. -/
def scaleShift (st : FVec F S64x768x2 .f32) (g b : FVec F S768x1 .f32) : FVec F S768x2 .f32 :=
  concatenate S768x2 1 [⟨S768x1, scaleOf (totals st) g⟩, ⟨S768x1, subf b (mulf (meanOf (totals st)) (scaleOf (totals st) g))⟩]
    concatenates_S768x1_S768x1_S768x2_d1

/-- The normalised sample plus the input, through the rectifier. -/
def bnOut (o x : FVec F S768x81 .f32) (sc sh : FVec F S768x1 .f32) : FVec F S768x81 .f32 :=
  maximumf (addf (addf (mulf o (broadcastTo S768x81 sc broadcasts_S768x1_S768x81)) (broadcastTo S768x81 sh broadcasts_S768x1_S768x81)) x)
    (broadcast S768x81 (Scalar.ofBits .f32 0x00000000#32 : F .f32))

end Cert.Attn

end
-- ==== Proof.BodyI.lean ====
/-
  The attention kernel's body as three reads and one step repeated for the eight samples of a block.
-/
module

public import proofs.«01_k».proof.Proof.Sample
public import Idealize.ShloMosaic.Lib.Pipeline.Regions

@[expose] public section

noncomputable section

namespace Cert.KernelIdeal.Body

open Cert.KernelIdeal Cert.KernelIdeal.Gen Cert.Attn
open Idealize.ShloMosaic Idealize.SL.Sem

variable {F : FTy → Type} [FloatOps F] [Named F]

/-- What a chosen distance is replaced by. -/
def big : F .f32 := Named.named κ "big" 0x7F61B1E6#32

/-- One sample: its block of `x` is read, the attention and its channel sums are stored. -/
def step (arg1 arg5 : Memref sig .tc .vmem S8x768x81 .f32) (arg6 : Memref sig .tc .vmem S8x768x2 .f32)
    (w : FVec F S2304x768 .bf16) (b : FVec F S2304x1 .f32) (a2 : FVec F S8x768 .bf16) (o : Fin 3 → ℕ)
    (h : ∀ a, o a + S1x768x81.size a ≤ S8x768x81.size a) (h' : ∀ a, o a + S1x768x2.size a ≤ S8x768x2.size a) :
    Prog (TpuEff nD τ sig (Elt F) Λ₀ .tc) PUnit := do
  let v : Vec F S1x768x81 .f32 ← Prog.lift (.load arg1 (Rect.unit (s := S8x768x81) o S1x768x81.size h).toLoadRect (View.loadsAt_vmem h_S1x768x81))
  let _ : Vec F S1x768x81 .f32 ← Prog.lift (.load arg5 (Rect.unit (s := S8x768x81) o S1x768x81.size h).toLoadRect (View.loadsAt_vmem h_S1x768x81))
  Prog.lift (.store arg5 (Rect.unit (s := S8x768x81) o S1x768x81.size h)
    (shapeCast S1x768x81 (attn big w b a2 (shapeCast S768x81 v shapeCasts_S1x768x81_S768x81)) shapeCasts_S768x81_S1x768x81)
    Finset.univ (View.stores_vmem_bits_univ h_S1x768x81 rfl) (.inl rfl))
  let _ : Vec F S1x768x2 .f32 ← Prog.lift (.load arg6 (Rect.unit (s := S8x768x2) o S1x768x2.size h').toLoadRect (View.loadsAt_vmem h_S1x768x2))
  Prog.lift (.store arg6 (Rect.unit (s := S8x768x2) o S1x768x2.size h')
    (shapeCast S1x768x2 (statsOf (attn big w b a2 (shapeCast S768x81 v shapeCasts_S1x768x81_S768x81))) shapeCasts_S768x2_S1x768x2)
    Finset.univ (View.stores_vmem_bits_univ h_S1x768x2 rfl) (.inl rfl))

/-- The body: the stacked weights, biases and score matrix are read, then the eight samples are done in turn. -/
def body (arg1 : Memref sig .tc .vmem S8x768x81 .f32) (arg2 : Memref sig .tc .vmem S2304x768 .bf16) (arg3 : Memref sig .tc .vmem S2304x1 .f32)
    (arg4 : Memref sig .tc .vmem S8x768 .bf16) (arg5 : Memref sig .tc .vmem S8x768x81 .f32) (arg6 : Memref sig .tc .vmem S8x768x2 .f32) :
    Prog (TpuEff nD τ sig (Elt F) Λ₀ .tc) PUnit := do
  let v0 : Vec F S2304x768 .bf16 ← Prog.lift (.load arg2 (Rect.unit (s := S2304x768) ![0, 0] S2304x768.size inb_S2304x768_S2304x768_0_0).toLoadRect (View.loadsAt_vmem h_S2304x768))
  let v2 : Vec F S2304x1 .f32 ← Prog.lift (.load arg3 (Rect.unit (s := S2304x1) ![0, 0] S2304x1.size inb_S2304x1_S2304x1_0_0).toLoadRect (View.loadsAt_vmem h_S2304x1))
  let v4 : Vec F S8x768 .bf16 ← Prog.lift (.load arg4 (Rect.unit (s := S8x768) ![0, 0] S8x768.size inb_S8x768_S8x768_0_0).toLoadRect (View.loadsAt_vmem h_S8x768))
  let w := shapeCast S2304x768 v0 shapeCasts_S2304x768_S2304x768
  let b := shapeCast S2304x1 v2 shapeCasts_S2304x1_S2304x1
  let a2 := shapeCast S8x768 v4 shapeCasts_S8x768_S8x768
  step arg1 arg5 arg6 w b a2 ![0, 0, 0] inb_S8x768x81_S1x768x81_0_0_0 inb_S8x768x2_S1x768x2_0_0_0
  step arg1 arg5 arg6 w b a2 ![1, 0, 0] inb_S8x768x81_S1x768x81_1_0_0 inb_S8x768x2_S1x768x2_1_0_0
  step arg1 arg5 arg6 w b a2 ![2, 0, 0] inb_S8x768x81_S1x768x81_2_0_0 inb_S8x768x2_S1x768x2_2_0_0
  step arg1 arg5 arg6 w b a2 ![3, 0, 0] inb_S8x768x81_S1x768x81_3_0_0 inb_S8x768x2_S1x768x2_3_0_0
  step arg1 arg5 arg6 w b a2 ![4, 0, 0] inb_S8x768x81_S1x768x81_4_0_0 inb_S8x768x2_S1x768x2_4_0_0
  step arg1 arg5 arg6 w b a2 ![5, 0, 0] inb_S8x768x81_S1x768x81_5_0_0 inb_S8x768x2_S1x768x2_5_0_0
  step arg1 arg5 arg6 w b a2 ![6, 0, 0] inb_S8x768x81_S1x768x81_6_0_0 inb_S8x768x2_S1x768x2_6_0_0
  step arg1 arg5 arg6 w b a2 ![7, 0, 0] inb_S8x768x81_S1x768x81_7_0_0 inb_S8x768x2_S1x768x2_7_0_0
  pure ⟨⟩

/-- The printed body is that one. -/
theorem attn_kernel_eq (i : grid0.Coords) (arg1 : Memref sig .tc .vmem S8x768x81 .f32) (harg1 : arg1.IsWhole)
    (arg2 : Memref sig .tc .vmem S2304x768 .bf16) (harg2 : arg2.IsWhole) (arg3 : Memref sig .tc .vmem S2304x1 .f32) (harg3 : arg3.IsWhole)
    (arg4 : Memref sig .tc .vmem S8x768 .bf16) (harg4 : arg4.IsWhole) (arg5 : Memref sig .tc .vmem S8x768x81 .f32) (harg5 : arg5.IsWhole)
    (arg6 : Memref sig .tc .vmem S8x768x2 .f32) (harg6 : arg6.IsWhole) :
    cc0__attn_kernel (F := F) i arg1 harg1 arg2 harg2 arg3 harg3 arg4 harg4 arg5 harg5 arg6 harg6 = body arg1 arg2 arg3 arg4 arg5 arg6 := by
  chain_rfl

/-- The first grid point's part of the normalising body: the scale and shift of every channel, kept in the scratch. -/
def prefix1 (i : grid1.Coords) (arg2 : Memref sig .tc .vmem S64x768x2 .f32) (arg4 arg5 : Memref sig .tc .vmem S768x1 .f32)
    (arg7 : Memref sig .tc .vmem S768x2 .f32) : Prog (TpuEff nD τ sig (Elt F) Λ₀ .tc) PUnit :=
  if _h : Scalar.cmpi .ne (Scalar.extui (Scalar.cmpi .eq (BitVec.ofNat 32 (i 0).val) 0#32) : BitVec 32) 0#32 = 1#1 then do
    let v131 : Vec F S64x768x2 .f32 ← Prog.lift (.load arg2 (Rect.unit (s := S64x768x2) ![0, 0, 0] S64x768x2.size inb_S64x768x2_S64x768x2_0_0_0).toLoadRect (View.loadsAt_vmem h_S64x768x2))
    let v145 : Vec F S768x1 .f32 ← Prog.lift (.load arg4 (Rect.unit (s := S768x1) ![0, 0] S768x1.size inb_S768x1_S768x1_0_0).toLoadRect (View.loadsAt_vmem h_S768x1))
    let v148 : Vec F S768x1 .f32 ← Prog.lift (.load arg5 (Rect.unit (s := S768x1) ![0, 0] S768x1.size inb_S768x1_S768x1_0_0).toLoadRect (View.loadsAt_vmem h_S768x1))
    let _ : Vec F S768x2 .f32 ← Prog.lift (.load arg7 (Rect.unit (s := S768x2) ![0, 0] S768x2.size inb_S768x2_S768x2_0_0).toLoadRect (View.loadsAt_vmem h_S768x2))
    Prog.lift (.store arg7 (Rect.unit (s := S768x2) ![0, 0] S768x2.size inb_S768x2_S768x2_0_0)
      (shapeCast S768x2 (scaleShift (shapeCast S64x768x2 v131 shapeCasts_S64x768x2_S64x768x2) (shapeCast S768x1 v145 shapeCasts_S768x1_S768x1)
        (shapeCast S768x1 v148 shapeCasts_S768x1_S768x1)) shapeCasts_S768x2_S768x2)
      Finset.univ (View.stores_vmem_bits_univ h_S768x2 rfl) (.inl rfl))
    pure ⟨⟩
  else do
    pure ⟨⟩

/-- One sample of the normalising body. -/
def step1 (arg1 arg3 arg6 : Memref sig .tc .vmem S8x768x81 .f32) (arg7 : Memref sig .tc .vmem S768x2 .f32) (o : Fin 3 → ℕ)
    (h : ∀ a, o a + S1x768x81.size a ≤ S8x768x81.size a) : Prog (TpuEff nD τ sig (Elt F) Λ₀ .tc) PUnit := do
  let v3 : Vec F S1x768x81 .f32 ← Prog.lift (.load arg1 (Rect.unit (s := S8x768x81) o S1x768x81.size h).toLoadRect (View.loadsAt_vmem h_S1x768x81))
  let v5 : Vec F S768x1 .f32 ← Prog.lift (.load arg7 (Rect.unit (s := S768x2) ![0, 0] S768x1.size inb_S768x2_S768x1_0_0).toLoadRect (View.loadsAt_vmem h_S768x1))
  let v8 : Vec F S768x1 .f32 ← Prog.lift (.load arg7 (Rect.unit (s := S768x2) ![0, 1] S768x1.size inb_S768x2_S768x1_0_1).toLoadRect (View.loadsAt_vmem h_S768x1))
  let v11 : Vec F S1x768x81 .f32 ← Prog.lift (.load arg3 (Rect.unit (s := S8x768x81) o S1x768x81.size h).toLoadRect (View.loadsAt_vmem h_S1x768x81))
  let _ : Vec F S1x768x81 .f32 ← Prog.lift (.load arg6 (Rect.unit (s := S8x768x81) o S1x768x81.size h).toLoadRect (View.loadsAt_vmem h_S1x768x81))
  Prog.lift (.store arg6 (Rect.unit (s := S8x768x81) o S1x768x81.size h)
    (shapeCast S1x768x81 (bnOut (shapeCast S768x81 v3 shapeCasts_S1x768x81_S768x81) (shapeCast S768x81 v11 shapeCasts_S1x768x81_S768x81) v5 v8)
      shapeCasts_S768x81_S1x768x81)
    Finset.univ (View.stores_vmem_bits_univ h_S1x768x81 rfl) (.inl rfl))

/-- The eight samples of the normalising body. -/
def steps1 (arg1 arg3 arg6 : Memref sig .tc .vmem S8x768x81 .f32) (arg7 : Memref sig .tc .vmem S768x2 .f32) :
    Prog (TpuEff nD τ sig (Elt F) Λ₀ .tc) PUnit := do
  step1 arg1 arg3 arg6 arg7 ![0, 0, 0] inb_S8x768x81_S1x768x81_0_0_0
  step1 arg1 arg3 arg6 arg7 ![1, 0, 0] inb_S8x768x81_S1x768x81_1_0_0
  step1 arg1 arg3 arg6 arg7 ![2, 0, 0] inb_S8x768x81_S1x768x81_2_0_0
  step1 arg1 arg3 arg6 arg7 ![3, 0, 0] inb_S8x768x81_S1x768x81_3_0_0
  step1 arg1 arg3 arg6 arg7 ![4, 0, 0] inb_S8x768x81_S1x768x81_4_0_0
  step1 arg1 arg3 arg6 arg7 ![5, 0, 0] inb_S8x768x81_S1x768x81_5_0_0
  step1 arg1 arg3 arg6 arg7 ![6, 0, 0] inb_S8x768x81_S1x768x81_6_0_0
  step1 arg1 arg3 arg6 arg7 ![7, 0, 0] inb_S8x768x81_S1x768x81_7_0_0
  pure ⟨⟩

/-- The printed normalising body is the first point's part, then the eight samples. -/
theorem bn_kernel_eq (i : grid1.Coords) (arg1 : Memref sig .tc .vmem S8x768x81 .f32) (harg1 : arg1.IsWhole)
    (arg2 : Memref sig .tc .vmem S64x768x2 .f32) (harg2 : arg2.IsWhole) (arg3 : Memref sig .tc .vmem S8x768x81 .f32) (harg3 : arg3.IsWhole)
    (arg4 : Memref sig .tc .vmem S768x1 .f32) (harg4 : arg4.IsWhole) (arg5 : Memref sig .tc .vmem S768x1 .f32) (harg5 : arg5.IsWhole)
    (arg6 : Memref sig .tc .vmem S8x768x81 .f32) (harg6 : arg6.IsWhole) (arg7 : Memref sig .tc .vmem S768x2 .f32) (harg7 : arg7.IsWhole) :
    cc1__bn_kernel (F := F) i arg1 harg1 arg2 harg2 arg3 harg3 arg4 harg4 arg5 harg5 arg6 harg6 arg7 harg7
      = (prefix1 i arg2 arg4 arg5 arg7 >>= fun _ => steps1 arg1 arg3 arg6 arg7) := by
  unfold cc1__bn_kernel k1_part1 prefix1
  dsimp (config := { zeta := true }) only
  split
  · chain_rfl
  · chain_rfl

end Cert.KernelIdeal.Body

end
-- ==== Proof.RegI.lean ====
/-
  The two pipelined calls of the kernel: what each body leaves in its output buffers, the bodies' triples, and the pipelines'
  proof data. The second call keeps every channel's scale and shift in a scratch buffer from its first grid point on.
-/
module

public import proofs.«01_k».proof.Proof.BodyI
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the bodies leave -/

/-- Sample `o`'s slot of a block of eight samples. -/
abbrev slot (o : Fin 3 → ℕ) (h : ∀ a, o a + S1x768x81.size a ≤ S8x768x81.size a) : Rect S8x768x81 := Rect.unit (s := S8x768x81) o S1x768x81.size h
/-- Sample `o`'s slot of a block of eight samples' channel sums. -/
abbrev slot2 (o : Fin 3 → ℕ) (h : ∀ a, o a + S1x768x2.size a ≤ S8x768x2.size a) : Rect S8x768x2 := Rect.unit (s := S8x768x2) o S1x768x2.size h

/-- One piece per sample slot, last sample first. -/
def pieces (p : (o : Fin 3 → ℕ) → (∀ a, o a + S1x768x81.size a ≤ S8x768x81.size a) → Vec F S1x768x81 .f32) :
    List (View.Piece (Elt F) S8x768x81 .f32) :=
  [⟨slot ![7, 0, 0] inb_S8x768x81_S1x768x81_7_0_0, p _ inb_S8x768x81_S1x768x81_7_0_0⟩, ⟨slot ![6, 0, 0] inb_S8x768x81_S1x768x81_6_0_0, p _ inb_S8x768x81_S1x768x81_6_0_0⟩,
   ⟨slot ![5, 0, 0] inb_S8x768x81_S1x768x81_5_0_0, p _ inb_S8x768x81_S1x768x81_5_0_0⟩, ⟨slot ![4, 0, 0] inb_S8x768x81_S1x768x81_4_0_0, p _ inb_S8x768x81_S1x768x81_4_0_0⟩,
   ⟨slot ![3, 0, 0] inb_S8x768x81_S1x768x81_3_0_0, p _ inb_S8x768x81_S1x768x81_3_0_0⟩, ⟨slot ![2, 0, 0] inb_S8x768x81_S1x768x81_2_0_0, p _ inb_S8x768x81_S1x768x81_2_0_0⟩,
   ⟨slot ![1, 0, 0] inb_S8x768x81_S1x768x81_1_0_0, p _ inb_S8x768x81_S1x768x81_1_0_0⟩, ⟨slot ![0, 0, 0] inb_S8x768x81_S1x768x81_0_0_0, p _ inb_S8x768x81_S1x768x81_0_0_0⟩]

/-- The sample slots cover the block. -/
theorem cover (p : (o : Fin 3 → ℕ) → (∀ a, o a + S1x768x81.size a ≤ S8x768x81.size a) → Vec F S1x768x81 .f32) (y : S8x768x81.Idx) :
    ∃ pc ∈ pieces p, y ∈ pc.1.set := by
  exact View.cover_of_tiled (pieces p) S1x768x81.size (by rfl) y

/-- One piece per sample slot of the channel sums, last sample first. -/
def pieces2 (p : (o : Fin 3 → ℕ) → (∀ a, o a + S1x768x81.size a ≤ S8x768x81.size a) → Vec F S1x768x2 .f32) :
    List (View.Piece (Elt F) S8x768x2 .f32) :=
  [⟨slot2 ![7, 0, 0] inb_S8x768x2_S1x768x2_7_0_0, p _ inb_S8x768x81_S1x768x81_7_0_0⟩, ⟨slot2 ![6, 0, 0] inb_S8x768x2_S1x768x2_6_0_0, p _ inb_S8x768x81_S1x768x81_6_0_0⟩,
   ⟨slot2 ![5, 0, 0] inb_S8x768x2_S1x768x2_5_0_0, p _ inb_S8x768x81_S1x768x81_5_0_0⟩, ⟨slot2 ![4, 0, 0] inb_S8x768x2_S1x768x2_4_0_0, p _ inb_S8x768x81_S1x768x81_4_0_0⟩,
   ⟨slot2 ![3, 0, 0] inb_S8x768x2_S1x768x2_3_0_0, p _ inb_S8x768x81_S1x768x81_3_0_0⟩, ⟨slot2 ![2, 0, 0] inb_S8x768x2_S1x768x2_2_0_0, p _ inb_S8x768x81_S1x768x81_2_0_0⟩,
   ⟨slot2 ![1, 0, 0] inb_S8x768x2_S1x768x2_1_0_0, p _ inb_S8x768x81_S1x768x81_1_0_0⟩, ⟨slot2 ![0, 0, 0] inb_S8x768x2_S1x768x2_0_0_0, p _ inb_S8x768x81_S1x768x81_0_0_0⟩]

/-- The slots of the channel sums cover their block. -/
theorem cover2 (p : (o : Fin 3 → ℕ) → (∀ a, o a + S1x768x81.size a ≤ S8x768x81.size a) → Vec F S1x768x2 .f32) (y : S8x768x2.Idx) :
    ∃ pc ∈ pieces2 p, y ∈ pc.1.set := by
  exact View.cover_of_tiled (pieces2 p) S1x768x2.size (by rfl) y

/-- What a buffer reads after stores that are these pieces. -/
theorem read_pieces {sp : Space} (v : View sig .tc sp S8x768x81 .f32) (f : v.ty.Contents (Elt F))
    (p : (o : Fin 3 → ℕ) → (∀ a, o a + S1x768x81.size a ≤ S8x768x81.size a) → Vec F S1x768x81 .f32)
    {l : List (View.Piece (Elt F) S8x768x81 .f32)} (h : l = pieces p) : v.read (Elt F) (v.writes (Elt F) f l) = View.canon (pieces p) := by
  subst h; exact View.read_writes_eq_canon _ _ _ (cover p)
/-- What a buffer of channel sums reads after stores that are these pieces. -/
theorem read_pieces2 {sp : Space} (v : View sig .tc sp S8x768x2 .f32) (f : v.ty.Contents (Elt F))
    (p : (o : Fin 3 → ℕ) → (∀ a, o a + S1x768x81.size a ≤ S8x768x81.size a) → Vec F S1x768x2 .f32)
    {l : List (View.Piece (Elt F) S8x768x2 .f32)} (h : l = pieces2 p) : v.read (Elt F) (v.writes (Elt F) f l) = View.canon (pieces2 p) := by
  subst h; exact View.read_writes_eq_canon _ _ _ (cover2 p)

/-- The whole of the stacked weights. -/
abbrev rW : Rect S2304x768 := Rect.unit (s := S2304x768) ![0, 0] S2304x768.size inb_S2304x768_S2304x768_0_0
/-- The whole of the stacked biases. -/
abbrev rB : Rect S2304x1 := Rect.unit (s := S2304x1) ![0, 0] S2304x1.size inb_S2304x1_S2304x1_0_0
/-- The whole of the score matrix. -/
abbrev rA : Rect S8x768 := Rect.unit (s := S8x768) ![0, 0] S8x768.size inb_S8x768_S8x768_0_0

/-- The attention of the sample in slot `o` of the block `x0`. -/
def attnAt (x0 : Vec F S8x768x81 .f32) (x1 : Vec F S2304x768 .bf16) (x2 : Vec F S2304x1 .f32) (x3 : Vec F S8x768 .bf16)
    (o : Fin 3 → ℕ) (h : ∀ a, o a + S1x768x81.size a ≤ S8x768x81.size a) : FVec F S768x81 .f32 :=
  attn big (shapeCast S2304x768 (View.ld x1 rW) shapeCasts_S2304x768_S2304x768) (shapeCast S2304x1 (View.ld x2 rB) shapeCasts_S2304x1_S2304x1)
    (shapeCast S8x768 (View.ld x3 rA) shapeCasts_S8x768_S8x768) (shapeCast S768x81 (View.ld x0 (slot o h)) shapeCasts_S1x768x81_S768x81)

/-- The attention call's block of attentions. -/
def out0_4 (x0 : Vec F S8x768x81 .f32) (x1 : Vec F S2304x768 .bf16) (x2 : Vec F S2304x1 .f32) (x3 : Vec F S8x768 .bf16) : Vec F S8x768x81 .f32 :=
  View.canon (pieces fun o h => shapeCast S1x768x81 (attnAt x0 x1 x2 x3 o h) shapeCasts_S768x81_S1x768x81)
/-- The attention call's block of channel sums. -/
def out0_5 (x0 : Vec F S8x768x81 .f32) (x1 : Vec F S2304x768 .bf16) (x2 : Vec F S2304x1 .f32) (x3 : Vec F S8x768 .bf16) : Vec F S8x768x2 .f32 :=
  View.canon (pieces2 fun o h => shapeCast S1x768x2 (statsOf (attnAt x0 x1 x2 x3 o h)) shapeCasts_S768x2_S1x768x2)

set_option maxHeartbeats 800000 in
/-- The attention body on whole staging buffers: the inputs as they were, the outputs at the eight samples' attentions and channel sums. -/
theorem sound_kernel0 (c : Dev nD) (E : Set ℕ) (i : grid0.Coords) (arg1 : Memref sig .tc .vmem S8x768x81 .f32) (harg1 : arg1.IsWhole)
    (arg2 : Memref sig .tc .vmem S2304x768 .bf16) (harg2 : arg2.IsWhole) (arg3 : Memref sig .tc .vmem S2304x1 .f32) (harg3 : arg3.IsWhole)
    (arg4 : Memref sig .tc .vmem S8x768 .bf16) (harg4 : arg4.IsWhole) (arg5 : Memref sig .tc .vmem S8x768x81 .f32) (harg5 : arg5.IsWhole)
    (arg6 : Memref sig .tc .vmem S8x768x2 .f32) (harg6 : arg6.IsWhole)
    (x0 : Vec F S8x768x81 .f32) (x1 : Vec F S2304x768 .bf16) (x2 : Vec F S2304x1 .f32) (x3 : Vec F S8x768 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2 x3)) -∗ K ⟨⟩))
      ⊢ wp frame (wpE (defs₀ (F := F)) Variants.none c none) E
          (cc0__attn_kernel i arg1 harg1 arg2 harg2 arg3 harg3 arg4 harg4 arg5 harg5 arg6 harg6) K := by
  rw [attn_kernel_eq]; unfold body step
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact read_pieces _ _ (fun o h => shapeCast S1x768x81 (attnAt _ _ _ _ o h) shapeCasts_S768x81_S1x768x81) rfl
  iexists _; isplitr
  swap; · iexact H5
  ipureintro
  exact read_pieces2 _ _ (fun o h => shapeCast S1x768x2 (statsOf (attnAt _ _ _ _ o h)) shapeCasts_S768x2_S1x768x2) rfl

/-! ## The attention call's proof data -/

section Data
-- the core's buffers when a call is entered
variable (V : (c : Dev nD) → (b : Ref sig .tc) → Buf (Elt F) ((c : Thread nD τ).loc b))

/-- Window `w`'s block at point `t` of the attention call. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The attention call's proof data: inputs stay at their blocks, outputs end at what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => out0_4 (blk0 V c 0 t) (blk0 V c 1 t) (blk0 V c 2 t) (blk0 V c 3 t)
    | ⟨5, _⟩ => out0_5 (blk0 V c 0 t) (blk0 V c 1 t) (blk0 V c 2 t) (blk0 V c 3 t)
  Φ _ := Pipeline.ΦA spec0 c
  q _ := fullShare
  owed _ := 0

/-- The arrays are the buffers at entry. -/
theorem A_eq0 (c : Dev nD) (w : Fin cfg0.W) : (dat0 V c).A w = V c (Pipeline.arrRef spec0 w) := by
  dsimp only [dat0]
/-- Window 0 after the body. -/
theorem after0_0 (c : Dev nD) (t : Fin cfg0.N) : (dat0 V c).after 0 t = blk0 V c 0 t := by dsimp only [dat0]
/-- Window 1 after the body. -/
theorem after0_1 (c : Dev nD) (t : Fin cfg0.N) : (dat0 V c).after 1 t = blk0 V c 1 t := by dsimp only [dat0]
/-- Window 2 after the body. -/
theorem after0_2 (c : Dev nD) (t : Fin cfg0.N) : (dat0 V c).after 2 t = blk0 V c 2 t := by dsimp only [dat0]
/-- Window 3 after the body. -/
theorem after0_3 (c : Dev nD) (t : Fin cfg0.N) : (dat0 V c).after 3 t = blk0 V c 3 t := by dsimp only [dat0]
/-- Window 4 after the body: the attentions. -/
theorem after0_4 (c : Dev nD) (t : Fin cfg0.N) :
    (dat0 V c).after 4 t = out0_4 (blk0 V c 0 t) (blk0 V c 1 t) (blk0 V c 2 t) (blk0 V c 3 t) := by dsimp only [dat0]
/-- Window 5 after the body: the channel sums. -/
theorem after0_5 (c : Dev nD) (t : Fin cfg0.N) :
    (dat0 V c).after 5 t = out0_5 (blk0 V c 0 t) (blk0 V c 1 t) (blk0 V c 2 t) (blk0 V c 3 t) := by dsimp only [dat0]
/-- Window 0 before the body holds its block. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
/-- Window 1 before the body holds its block. -/
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)
/-- Window 2 before the body holds its block. -/
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]; try rfl) t d).trans
    (by unfold Dat.fetched Dat.blockOf blk0; rw [A_eq0]; try rfl)
/-- Window 3 before the body holds its block. -/
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [A_eq0]; try rfl) t d).trans
    (by unfold Dat.fetched Dat.blockOf blk0; rw [A_eq0]; try rfl)

/-- The attention body at a point, its windows one by one. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t)
        ∗ owns (c : Thread nD τ) (st0_4 t) fullShare ((dat0 V c).after 4 t)
        ∗ owns (c : Thread nD τ) (st0_5 t) fullShare ((dat0 V c).after 5 t))) := by
  unfold bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row of the attention call. -/
theorem row0 (t : Fin cfg0.N) : defs₀ (F := F) .tc cfg0.body (cfg0.bodyArgs t (cfg0.slots t)) = bodyAt0 t := by
  unfold defs₀; rw [Defs.onTc_tc]

/-- The attention call's body obligation. -/
theorem obligation0 (c : Dev nD) : BodyObligation (dat0 (F := F) V c) (defs₀ (F := F)) Variants.none () Set.univ := fun t => by
  rw [bigSep_W0, bigSep_W0, row0]
  exact triple_restated (sound_body0 V c t) rfl .rfl fun _ => .rfl

end Data

end Cert.KernelIdeal.Body

end
-- ==== Proof.Reg1I.lean ====
/-
  The normalising call: the body's triple, and the pipeline's proof data. It keeps every channel's scale and shift in a scratch
  buffer from its first grid point on.
-/
module

public import proofs.«01_k».proof.Proof.RegI
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The normalising body -/

/-- The whole of all samples' channel sums. -/
abbrev rS : Rect S64x768x2 := Rect.unit (s := S64x768x2) ![0, 0, 0] S64x768x2.size inb_S64x768x2_S64x768x2_0_0_0
/-- The whole of a channel column. -/
abbrev rG : Rect S768x1 := Rect.unit (s := S768x1) ![0, 0] S768x1.size inb_S768x1_S768x1_0_0
/-- The whole of the scratch. -/
abbrev rT : Rect S768x2 := Rect.unit (s := S768x2) ![0, 0] S768x2.size inb_S768x2_S768x2_0_0
/-- The scales in the scratch. -/
abbrev rT0 : Rect S768x2 := Rect.unit (s := S768x2) ![0, 0] S768x1.size inb_S768x2_S768x1_0_0
/-- The shifts in the scratch. -/
abbrev rT1 : Rect S768x2 := Rect.unit (s := S768x2) ![0, 1] S768x1.size inb_S768x2_S768x1_0_1

/-- What the first point's part leaves in the scratch. -/
def scratchOf (x1 : Vec F S64x768x2 .f32) (x3 x4 : Vec F S768x1 .f32) : Vec F S768x2 .f32 :=
  View.canon [⟨rT, shapeCast S768x2 (scaleShift (shapeCast S64x768x2 (View.ld x1 rS) shapeCasts_S64x768x2_S64x768x2)
    (shapeCast S768x1 (View.ld x3 rG) shapeCasts_S768x1_S768x1) (shapeCast S768x1 (View.ld x4 rG) shapeCasts_S768x1_S768x1)) shapeCasts_S768x2_S768x2⟩]

/-- One store covers the scratch. -/
theorem coverT (p : Vec F S768x2 .f32) (y : S768x2.Idx) : ∃ pc ∈ ([⟨rT, p⟩] : List (View.Piece (Elt F) S768x2 .f32)), y ∈ pc.1.set :=
  View.cover_of_tiled [⟨rT, p⟩] S768x2.size (by rfl) y

/-- The result of the sample in slot `o`. -/
def bnAt (x0 x2 : Vec F S8x768x81 .f32) (s : Vec F S768x2 .f32) (o : Fin 3 → ℕ) (h : ∀ a, o a + S1x768x81.size a ≤ S8x768x81.size a) :
    Vec F S1x768x81 .f32 :=
  shapeCast S1x768x81 (bnOut (shapeCast S768x81 (View.ld x0 (slot o h)) shapeCasts_S1x768x81_S768x81)
    (shapeCast S768x81 (View.ld x2 (slot o h)) shapeCasts_S1x768x81_S768x81) (View.ld s rT0) (View.ld s rT1)) shapeCasts_S768x81_S1x768x81

/-- The normalising call's block of results. -/
def out1_5 (x0 x2 : Vec F S8x768x81 .f32) (s : Vec F S768x2 .f32) : Vec F S8x768x81 .f32 :=
  View.canon (pieces (bnAt x0 x2 s))

/-- Whether a point is the first, as the body decides it. -/
abbrev isFirst (i : grid1.Coords) : Prop :=
  Scalar.cmpi .ne (Scalar.extui (Scalar.cmpi .eq (BitVec.ofNat 32 (i 0).val) 0#32) : BitVec 32) 0#32 = 1#1

/-- The first point's part at the first point: the scratch ends at the scales and shifts. -/
theorem sound_prefix (c : Dev nD) (E : Set ℕ) (i : grid1.Coords) (hi : isFirst i) (arg2 : Memref sig .tc .vmem S64x768x2 .f32) (harg2 : arg2.IsWhole)
    (arg4 : Memref sig .tc .vmem S768x1 .f32) (harg4 : arg4.IsWhole) (arg5 : Memref sig .tc .vmem S768x1 .f32) (harg5 : arg5.IsWhole)
    (arg7 : Memref sig .tc .vmem S768x2 .f32) (harg7 : arg7.IsWhole)
    (x1 : Vec F S64x768x2 .f32) (x3 x4 : Vec F S768x1 .f32) (K : PUnit → sProp 𝕄) :
    iprop(owns (c : Thread nD τ) arg2 fullShare x1 ∗ owns (c : Thread nD τ) arg4 fullShare x3 ∗ owns (c : Thread nD τ) arg5 fullShare x4
        ∗ (∃ d, owns (c : Thread nD τ) arg7 fullShare d)
        ∗ (iprop(owns (c : Thread nD τ) arg2 fullShare x1 ∗ owns (c : Thread nD τ) arg4 fullShare x3 ∗ owns (c : Thread nD τ) arg5 fullShare x4
            ∗ owns (c : Thread nD τ) arg7 fullShare (scratchOf x1 x3 x4)) -∗ K ⟨⟩))
      ⊢ wp frame (wpE (defs₀ (F := F)) Variants.none c none) E (prefix1 i arg2 arg4 arg5 arg7) K := by
  unfold prefix1
  rw [dif_pos hi]
  unfold owns
  iintro ⟨⟨%f1, %hf1, H1⟩, ⟨%f3, %hf3, H3⟩, ⟨%f4, %hf4, H4⟩, ⟨%d7, %f7, -, H7⟩, Hk⟩
  subst hf1 hf3 hf4
  sl_exec
  sl_step
  iapply Hk
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  iexists _; isplitr
  swap; · iexact H7
  ipureintro
  exact View.read_writes_eq_canon _ _ _ (coverT _)

/-- The first point's part at a later point does nothing. -/
theorem skip_prefix (c : Dev nD) (E : Set ℕ) (i : grid1.Coords) (hi : ¬ isFirst i) (arg2 : Memref sig .tc .vmem S64x768x2 .f32)
    (arg4 arg5 : Memref sig .tc .vmem S768x1 .f32) (arg7 : Memref sig .tc .vmem S768x2 .f32) (K : PUnit → sProp 𝕄) :
    K ⟨⟩ ⊢ wp frame (wpE (defs₀ (F := F)) Variants.none c none) E (prefix1 i arg2 arg4 arg5 arg7) K := by
  unfold prefix1
  rw [dif_neg hi]
  iintro Hk
  sl_step
  iexact Hk

set_option maxHeartbeats 800000 in
/-- The eight samples of the normalising body, the scratch at `s`. -/
theorem sound_steps1 (c : Dev nD) (E : Set ℕ) (arg1 : Memref sig .tc .vmem S8x768x81 .f32) (harg1 : arg1.IsWhole)
    (arg3 : Memref sig .tc .vmem S8x768x81 .f32) (harg3 : arg3.IsWhole) (arg6 : Memref sig .tc .vmem S8x768x81 .f32) (harg6 : arg6.IsWhole)
    (arg7 : Memref sig .tc .vmem S768x2 .f32) (harg7 : arg7.IsWhole)
    (x0 x2 : Vec F S8x768x81 .f32) (s : Vec F S768x2 .f32) (K : PUnit → sProp 𝕄) :
    iprop(owns (c : Thread nD τ) arg1 fullShare x0 ∗ owns (c : Thread nD τ) arg3 fullShare x2 ∗ (∃ d, owns (c : Thread nD τ) arg6 fullShare d)
        ∗ owns (c : Thread nD τ) arg7 fullShare s
        ∗ (iprop(owns (c : Thread nD τ) arg1 fullShare x0 ∗ owns (c : Thread nD τ) arg3 fullShare x2
            ∗ owns (c : Thread nD τ) arg6 fullShare (out1_5 x0 x2 s) ∗ owns (c : Thread nD τ) arg7 fullShare s) -∗ K ⟨⟩))
      ⊢ wp frame (wpE (defs₀ (F := F)) Variants.none c none) E (steps1 arg1 arg3 arg6 arg7) K := by
  unfold steps1 step1
  unfold owns
  iintro ⟨⟨%f0, %hf0, H0⟩, ⟨%f2, %hf2, H2⟩, ⟨%d6, %f6, -, H6⟩, ⟨%f7, %hf7, H7⟩, Hk⟩
  subst hf0 hf2 hf7
  sl_exec
  sl_step
  iapply Hk
  isplitl [H0]
  · iexists f0; isplitr; · ipureintro; rfl
    iexact H0
  isplitl [H2]
  · iexists f2; isplitr; · ipureintro; rfl
    iexact H2
  isplitl [H6]
  · iexists _; isplitr
    swap; · iexact H6
    ipureintro
    unfold out1_5
    exact read_pieces _ _ (bnAt (arg1.view.read (Elt F) f0) (arg3.view.read (Elt F) f2) (arg7.view.read (Elt F) f7)) rfl
  iexists f7; isplitr; · ipureintro; rfl
  iexact H7

/-! ## The normalising call's proof data -/

section Data1
-- the core's buffers when a call is entered
variable (V : (c : Dev nD) → (b : Ref sig .tc) → Buf (Elt F) ((c : Thread nD τ).loc b))

/-- Window `w`'s block at point `t` of the normalising call. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
abbrev t0 : Fin cfg1.N := ⟨0, by decide⟩

/-- The scratch from the first point on. -/
def kept (c : Dev nD) : Vec F S768x2 .f32 := scratchOf (blk1 V c 1 t0) (blk1 V c 3 t0) (blk1 V c 4 t0)

/-- What is carried between points: the scratch — anything at first, then the scales and shifts —, the other scoped buffers, the
    generator register. -/
def Φ1 (c : Dev nD) (n : ℕ) : sProp 𝕄 :=
  iprop((∃ s, ⌜n ≠ 0 → s = kept V c⌝ ∗ owns (c : Thread nD τ) (Memref.whole cc1_scratch0) fullShare s)
    ∗ Pipeline.scopedRestBut (Ix := Unit) (Name := ℕ) (U := UR sig nD τ) (Lvl := ℕ) (Val := Elt F) spec1 c [cc1_scratch0] ∗ ∃ r, prngReg c r)

/-- The normalising call's proof data. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1_5 (blk1 V c 0 t) (blk1 V c 2 t) (kept V c)
  Φ t := Φ1 V c t.val
  q _ := fullShare
  owed _ := 0

/-- The arrays are the buffers at entry. -/
theorem A_eq1 (c : Dev nD) (w : Fin cfg1.W) : (dat1 V c).A w = V c (Pipeline.arrRef spec1 w) := by
  dsimp only [dat1]
/-- Window 0 after the body. -/
theorem after1_0 (c : Dev nD) (t : Fin cfg1.N) : (dat1 V c).after 0 t = blk1 V c 0 t := by dsimp only [dat1]
/-- Window 1 after the body. -/
theorem after1_1 (c : Dev nD) (t : Fin cfg1.N) : (dat1 V c).after 1 t = blk1 V c 1 t := by dsimp only [dat1]
/-- Window 2 after the body. -/
theorem after1_2 (c : Dev nD) (t : Fin cfg1.N) : (dat1 V c).after 2 t = blk1 V c 2 t := by dsimp only [dat1]
/-- Window 3 after the body. -/
theorem after1_3 (c : Dev nD) (t : Fin cfg1.N) : (dat1 V c).after 3 t = blk1 V c 3 t := by dsimp only [dat1]
/-- Window 4 after the body. -/
theorem after1_4 (c : Dev nD) (t : Fin cfg1.N) : (dat1 V c).after 4 t = blk1 V c 4 t := by dsimp only [dat1]
/-- Window 5 after the body: the results. -/
theorem after1_5 (c : Dev nD) (t : Fin cfg1.N) : (dat1 V c).after 5 t = out1_5 (blk1 V c 0 t) (blk1 V c 2 t) (kept V c) := by dsimp only [dat1]
/-- Window 0 before the body holds its block. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
/-- Window 1 before the body holds its block. -/
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)
/-- Window 2 before the body holds its block. -/
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]; try rfl) t d).trans
    (by unfold Dat.fetched Dat.blockOf blk1; rw [A_eq1]; try rfl)
/-- Window 3 before the body holds its block. -/
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]; try rfl) t d).trans
    (by unfold Dat.fetched Dat.blockOf blk1; rw [A_eq1]; try rfl)
/-- Window 4 before the body holds its block. -/
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]; try rfl) t d).trans
    (by unfold Dat.fetched Dat.blockOf blk1; rw [A_eq1]; try rfl)

/-- The body's test holds exactly at the first point. -/
theorem isFirst_iff : ∀ t : Fin cfg1.N, isFirst (grid1.coords t) ↔ t = t0 := by decide

/-- The normalising body at a point, its windows one by one. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t))) := by
  unfold bodyAt1
  simp only [before1_0, before1_1, before1_2, before1_3, before1_4]
  rw [show (dat1 V c).Φ t.succ = Φ1 V c (t.val + 1) from rfl, show (dat1 V c).Φ t.castSucc = Φ1 V c t.val from rfl,
    show (dat1 V c).owesAt () t.succ = (dat1 V c).owesAt () t.castSucc from rfl,
    after1_0, after1_1, after1_2, after1_3, after1_4, after1_5, bn_kernel_eq, wp_bind]
  unfold Φ1
  iintro ⟨⟨⟨%s, %hs, HT⟩, Hrest⟩, Ho, ⟨%d0, H0⟩, ⟨%d1, H1⟩, ⟨%d2, H2⟩, ⟨%d3, H3⟩, ⟨%d4, H4⟩, ⟨%d5, H5⟩⟩
  by_cases ht : t = t0
  · subst ht
    iapply (sound_prefix c Set.univ (grid1.coords t0) ((isFirst_iff t0).2 rfl) _ (hstage1_1 _) _ (hstage1_3 _) _ (hstage1_4 _) _ (Memref.isWhole_whole _)
      (blk1 V c 1 t0) (blk1 V c 3 t0) (blk1 V c 4 t0) _)
    isplitl [H1]; · iexact H1
    isplitl [H3]; · iexact H3
    isplitl [H4]; · iexact H4
    isplitl [HT]; · iexists _; iexact HT
    iintro ⟨H1, H3, H4, HT⟩
    iapply (sound_steps1 c Set.univ _ (hstage1_0 _) _ (hstage1_2 _) _ (hstage1_5 _) _ (Memref.isWhole_whole _) (blk1 V c 0 t0) (blk1 V c 2 t0) (kept V c) _)
    isplitl [H0]; · iexact H0
    isplitl [H2]; · iexact H2
    isplitl [H5]; · iexists _; iexact H5
    isplitl [HT]; · iexact HT
    iintro ⟨H0, H2, H5, HT⟩
    isplitl [HT Hrest]
    · isplitl [HT]
      · iexists _; isplitr
        swap; · iexact HT
        ipureintro; exact fun _ => rfl
      iexact Hrest
    isplitl [Ho]; · iexact Ho
    isplitl [H0]; · iexact H0
    isplitl [H1]; · iexact H1
    isplitl [H2]; · iexact H2
    isplitl [H3]; · iexact H3
    isplitl [H4]; · iexact H4
    iexact H5
  · have hs' : s = kept V c := hs fun e => ht (Fin.ext e)
    subst hs'
    iapply (skip_prefix c Set.univ (grid1.coords t) (fun h => ht ((isFirst_iff t).1 h)))
    iapply (sound_steps1 c Set.univ _ (hstage1_0 _) _ (hstage1_2 _) _ (hstage1_5 _) _ (Memref.isWhole_whole _) (blk1 V c 0 t) (blk1 V c 2 t) (kept V c) _)
    isplitl [H0]; · iexact H0
    isplitl [H2]; · iexact H2
    isplitl [H5]; · iexists _; iexact H5
    isplitl [HT]; · iexact HT
    iintro ⟨H0, H2, H5, HT⟩
    isplitl [HT Hrest]
    · isplitl [HT]
      · iexists _; isplitr
        swap; · iexact HT
        ipureintro; exact fun _ => rfl
      iexact Hrest
    isplitl [Ho]; · iexact Ho
    isplitl [H0]; · iexact H0
    isplitl [H1]; · iexact H1
    isplitl [H2]; · iexact H2
    isplitl [H3]; · iexact H3
    isplitl [H4]; · iexact H4
    iexact H5

/-- The body table's row of the normalising call. -/
theorem row1 (t : Fin cfg1.N) : defs₀ (F := F) .tc cfg1.body (cfg1.bodyArgs t (cfg1.slots t)) = bodyAt1 t := by
  unfold defs₀; rw [Defs.onTc_tc]

/-- The normalising call's body obligation. -/
theorem obligation1 (c : Dev nD) : BodyObligation (dat1 (F := F) V c) (defs₀ (F := F)) Variants.none () Set.univ := fun t => by
  rw [bigSep_W1, bigSep_W1, row1]
  exact triple_restated (sound_body1 V c t) rfl .rfl fun _ => .rfl

/-- The scoped buffers of the call are its scratch and the others. -/
theorem split1 (c : Dev nD) : (Pipeline.scopedRest (Ix := Unit) (Name := ℕ) (U := UR sig nD τ) (Lvl := ℕ) (Val := Elt F) spec1 c : sProp 𝕄)
    = iprop((∃ f : Buf (Elt F) ((c.tc : Thread nD τ).loc cc1_scratch0), ((c.tc : Thread nD τ).loc cc1_scratch0) ↦{fullShare} f)
      ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Owning the whole scratch is owning its buffer. -/
theorem ownsT (c : Dev nD) (s : Vec F S768x2 .f32) : (owns (c : Thread nD τ) (Memref.whole cc1_scratch0) fullShare s : sProp 𝕄)
    = (((c.tc : Thread nD τ).loc cc1_scratch0) ↦{fullShare} s) := owns_whole (c : Thread nD τ) cc1_scratch0 fullShare s

/-- The class invariant gives what is carried before the first point, -/
theorem enter1 (c : Dev nD) : (Pipeline.ΦA spec1 c : sProp 𝕄) ⊢ Φ1 V c 0 := by
  unfold Pipeline.ΦA Φ1
  rw [split1]
  iintro ⟨⟨⟨%f, H⟩, Hr⟩, Hp⟩
  isplitl [H]
  · iexists f
    isplitr; · ipureintro; exact fun h => absurd rfl h
    rw [ownsT]
    iexact H
  isplitl [Hr]; · iexact Hr
  iexact Hp

/-- and what is carried after the last gives it back. -/
theorem leave1 (c : Dev nD) (n : ℕ) : Φ1 V c n ⊢ (Pipeline.ΦA spec1 c : sProp 𝕄) := by
  unfold Pipeline.ΦA Φ1
  simp only [split1, ownsT]
  iintro ⟨⟨%s, -, H⟩, Hr, Hp⟩
  isplitl [H Hr]
  · isplitl [H]
    · iexists s; iexact H
    iexact Hr
  iexact Hp

end Data1

end Cert.KernelIdeal.Body

end
-- ==== Proof.RunI.lean ====
/-
  The kernel's run: what every buffer holds between the host stretches and the two calls, the calls as segments of the program,
  and the run of the whole.
-/
module

public import proofs.«01_k».proof.Proof.Reg1I
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the launch's memory and generator registers
variable (m : (ℓ : Loc nD τ sig) → Buf (Elt F) ℓ) (ρ : Dev nD → PrngReg)

/-! ## The buffers between the parts of the program -/

/-- The arguments. -/
abbrev args : List (Ref sig .tc) := [main_arg0, main_arg1, main_arg2, main_arg3, main_arg4, main_arg5, main_arg6, main_arg7, main_arg8, main_arg9]

/-- At launch. -/
abbrev U0 : Dev nD → Valuation τ sig (Elt F) := fun c b => m ((c : Dev nD), b)
/-- After the first host stretch. -/
def U1 (c : Dev nD) : Valuation τ sig (Elt F) := StableHlo.after hostOps0 (U0 m c)
/-- The same at the core's references. -/
abbrev X1 : (c : Dev nD) → (b : Ref sig .tc) → Buf (Elt F) ((c : Thread nD τ).loc b) := fun c b => U1 m c b
/-- After the attention call. -/
def U2 (c : Dev nD) : Valuation τ sig (Elt F) := Pipeline.withArrays spec0 c (U1 m c) fun w => (dat0 (X1 m) c).arrAt w cfg0.N
/-- The same at the core's references. -/
abbrev X2 : (c : Dev nD) → (b : Ref sig .tc) → Buf (Elt F) ((c : Thread nD τ).loc b) := fun c b => U2 m c b
/-- After the second host stretch. -/
def U3 (c : Dev nD) : Valuation τ sig (Elt F) := StableHlo.after hostOps1 (U2 m c)
/-- The same at the core's references. -/
abbrev X3 : (c : Dev nD) → (b : Ref sig .tc) → Buf (Elt F) ((c : Thread nD τ).loc b) := fun c b => U3 m c b
/-- After the normalising call. -/
def U4 (c : Dev nD) : Valuation τ sig (Elt F) := Pipeline.withArrays spec1 c (U3 m c) fun w => (dat1 (X3 m) c).arrAt w cfg1.N
/-- The same at the core's references. -/
abbrev X4 : (c : Dev nD) → (b : Ref sig .tc) → Buf (Elt F) ((c : Thread nD τ).loc b) := fun c b => U4 m c b
/-- At the end. -/
def U5 (c : Dev nD) : Valuation τ sig (Elt F) := StableHlo.after hostOps2 (U4 m c)

/-- The first host stretch leaves what it does not write. -/
theorem U1_of (c : Dev nD) (r : Ref sig .tc) (h : r ∉ hostOps0_W) : U1 m c (Proc.devRef .tc r) = U0 m c (Proc.devRef .tc r) := by
  unfold U1; exact StableHlo.after_of_writes_sub hostOps0 _ hostOps0_writes h
/-- The attention call's arrays after it. -/
theorem U2_arr (c : Dev nD) (w : Fin cfg0.W) : U2 m c (Proc.devRef .tc (Pipeline.arrRef spec0 w)) = (dat0 (X1 m) c).arrAt w cfg0.N := by
  unfold U2; exact Pipeline.withArrays_arr spec0 launch0.win.arr_inj c _ _ w
/-- The other buffers after the attention call. -/
theorem U2_of_ne (c : Dev nD) (b : Ref sig .tc) (hb : ∀ w, Pipeline.arrRef spec0 w ≠ b) : U2 m c (Proc.devRef .tc b) = U1 m c (Proc.devRef .tc b) := by
  unfold U2; exact Pipeline.withArrays_of_ne spec0 c _ _ b hb
/-- The attention call leaves what is none of its results. -/
theorem U2_of (c : Dev nD) (r : Ref sig .tc) (h : ∀ w : Fin cfg0.W, Pipeline.arrRef spec0 w = r → (cfg0.win w).isOut = false) :
    U2 m c (Proc.devRef .tc r) = U1 m c (Proc.devRef .tc r) := by
  by_cases hw : ∃ w : Fin cfg0.W, Pipeline.arrRef spec0 w = r
  · obtain ⟨w, rfl⟩ := hw
    exact (U2_arr m c w).trans (((dat0 (X1 m) c).arrAt_in w (h w rfl) _).trans (A_eq0 (X1 m) c w))
  · exact U2_of_ne m c r fun w e => hw ⟨w, e⟩
/-- The second host stretch leaves what it does not write. -/
theorem U3_of (c : Dev nD) (r : Ref sig .tc) (h : r ∉ hostOps1_W) : U3 m c (Proc.devRef .tc r) = U2 m c (Proc.devRef .tc r) := by
  unfold U3; exact StableHlo.after_of_writes_sub hostOps1 _ hostOps1_writes h
/-- The normalising call's arrays after it. -/
theorem U4_arr (c : Dev nD) (w : Fin cfg1.W) : U4 m c (Proc.devRef .tc (Pipeline.arrRef spec1 w)) = (dat1 (X3 m) c).arrAt w cfg1.N := by
  unfold U4; exact Pipeline.withArrays_arr spec1 launch1.win.arr_inj c _ _ w
/-- The other buffers after the normalising call. -/
theorem U4_of_ne (c : Dev nD) (b : Ref sig .tc) (hb : ∀ w, Pipeline.arrRef spec1 w ≠ b) : U4 m c (Proc.devRef .tc b) = U3 m c (Proc.devRef .tc b) := by
  unfold U4; exact Pipeline.withArrays_of_ne spec1 c _ _ b hb
/-- The normalising call leaves what is none of its results. -/
theorem U4_of (c : Dev nD) (r : Ref sig .tc) (h : ∀ w : Fin cfg1.W, Pipeline.arrRef spec1 w = r → (cfg1.win w).isOut = false) :
    U4 m c (Proc.devRef .tc r) = U3 m c (Proc.devRef .tc r) := by
  by_cases hw : ∃ w : Fin cfg1.W, Pipeline.arrRef spec1 w = r
  · obtain ⟨w, rfl⟩ := hw
    exact (U4_arr m c w).trans (((dat1 (X3 m) c).arrAt_in w (h w rfl) _).trans (A_eq1 (X3 m) c w))
  · exact U4_of_ne m c r fun w e => hw ⟨w, e⟩
/-- The last host stretch leaves what it does not write. -/
theorem U5_of (c : Dev nD) (r : Ref sig .tc) (h : r ∉ hostOps2_W) : U5 m c (Proc.devRef .tc r) = U4 m c (Proc.devRef .tc r) := by
  unfold U5; exact StableHlo.after_of_writes_sub hostOps2 _ hostOps2_writes h

/-- An argument is none of the attention call's results, -/
theorem args0 : ∀ a ∈ args, ∀ w : Fin cfg0.W, Pipeline.arrRef spec0 w = a → (cfg0.win w).isOut = false :=
  ListAll.forall_mem_of_all_decide (by decide +kernel)
/-- none of the normalising call's, -/
theorem args1 : ∀ a ∈ args, ∀ w : Fin cfg1.W, Pipeline.arrRef spec1 w = a → (cfg1.win w).isOut = false :=
  ListAll.forall_mem_of_all_decide (by decide +kernel)
/-- and written by no host stretch. -/
theorem argsHost : ∀ a ∈ args, a ∉ hostOps0_W ∧ a ∉ hostOps1_W ∧ a ∉ hostOps2_W :=
  ListAll.forall_mem_of_all_decide (by decide +kernel)
/-- The arguments end as launched. -/
theorem U5_args (c : Dev nD) (a : Ref sig .tc) (ha : a ∈ args) : U5 m c (Proc.devRef .tc a) = m ((c : Thread nD τ).loc a) :=
  (U5_of m c a (argsHost a ha).2.2).trans ((U4_of m c a (args1 a ha)).trans ((U3_of m c a (argsHost a ha).2.1).trans
    ((U2_of m c a (args0 a ha)).trans (U1_of m c a (argsHost a ha).1))))

/-! ## The program's parts as segments -/

/-- Each call's proof data at its entry. -/
def pdats : (p : Fin 2) → (c : Dev nD) → Dat τ (Elt F) Unit ℕ (UR sig nD τ) ℕ (Pipeline.pin (pcfgs (F := F)) adm p) c
  | ⟨0, _⟩ => fun c => dat0 (X1 m) c
  | ⟨1, _⟩ => fun c => dat1 (X3 m) c
/-- No counted body table. -/
abbrev 𝒱₀ : Variants := Variants.none
/-- No core owes another anything. -/
abbrev L : GSem nD τ sig → Finset Unit := fun _ => ∅
/-- No level is needed. -/
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The attention call as a segment. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (X1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hs := Pipeline.arrays_of_unscopedBufs (p := 0) (pcfgs (F := F)) adm (pdats m) launch0.win launch0.arr_whole c
      ((pdats m 0 c).share_full fun _ => rfl) (X1 m c) (A_eq0 (X1 m) c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (X2 m c) ((pdats m 0 c).arrAt · cfg0.N) (fun w => (U2_arr m c w).symm)
      (fun b hb => U2_of_ne m c b fun w e => hb (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising call as a segment. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (X3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hs := Pipeline.arrays_of_unscopedBufs (p := 1) (pcfgs (F := F)) adm (pdats m) launch1.win launch1.arr_whole c
      ((pdats m 1 c).share_full fun _ => rfl) (X3 m c) (A_eq1 (X3 m) c)
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (X3 m) c 0 from rfl]
    have he := enter1 (X3 m) c
    unfold Pipeline.ΦA at he
    iintro ⟨Hp, -, Hr⟩
    iapply he
    isplitl [Hr]; · iexact Hr
    iexact Hp
  hout c := by
    rw [Pipeline.ownSems0_none, show (pdats m 1 c).Φ (Fin.last _) = Φ1 (X3 m) c cfg1.N from rfl]
    have he := leave1 (X3 m) c cfg1.N
    unfold Pipeline.ΦA at he
    iintro H
    ihave H' := he $$ H
    icases H' with ⟨Hr, Hp⟩
    isplitl [Hp]; · iexact Hp
    isplitr; · iempintro
    iexact Hr
  hexit c := by
    have hj := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (X4 m c) ((pdats m 1 c).arrAt · cfg1.N) (fun w => (U4_arr m c w).symm)
      (fun b hb => U4_of_ne m c b fun w e => hb (Finset.mem_image.mpr ⟨w, Finset.mem_univ _, e⟩))
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-- The program's five parts. -/
abbrev segs : List (Pipeline.Seg (pcfgs (F := F)) adm (pdats m) () defs₀ 𝒱₀ L lv) :=
  [.host (hseg hostOps0 hostOps0_sub hostOps0_fresh (U0 m)), .region (reg0 m), .host (hseg hostOps1 hostOps1_sub hostOps1_fresh (U2 m)),
   .region (reg1 m), .host (hseg hostOps2 hostOps2_sub hostOps2_fresh (U4 m))]
/-- The program is the run of its parts. -/
theorem main_run (c : Dev nD) : main (F := F) c = Pipeline.Seg.run (segs m) := (main_chain c).trans (by chain_rfl)
/-- The core has no unscoped semaphore. -/
theorem no_unscoped : ∀ sm : SemLoc sig, sm.isScoped .tc = true := by decide
/-- What the core holds at the end, beside owing nothing. -/
abbrev Tend (c : Dev nD) : sProp 𝕄 := iprop(StableHlo.held (c : Thread nD τ) (Pipeline.ucRefs τ sig) (U5 m c) ∗ ∃ r, prngReg c r)

/-- The last part leaves what the core holds at the end. -/
theorem end_post (c : Dev nD) : iprop(StableHlo.held (c : Thread nD τ) (Pipeline.ucRefs τ sig) (U5 m c) ∗ R c)
    ⊢ iprop(Tend m c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- The run: it terminates, and every unscoped buffer ends at `U5`, every semaphore at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = U5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tend m)
    (hch := ⟨fun _ => .rfl, fun _ => .rfl, fun _ => .rfl, fun _ => .rfl, fun _ => .rfl, end_post m⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U5 m c b)
    (hfin := fun c s' => by
      iintro ⟨⟨Hh, -⟩, HSI⟩
      unfold StableHlo.held
      imodintro
      iapply (pointsTo_read_all (Pipeline.ucRefs τ sig) (fun b => (((c : Thread nD τ)).1, b)) (U5 m c) s')
      isplitl [Hh] <;> iassumption)
    (hQ := fun s h hz => ⟨h, funext fun g => hz g (.inr (no_unscoped g.2))⟩)

/-- What the run leaves in one unscoped buffer. -/
theorem end_at {mem : (ℓ : Loc nD τ sig) → Buf (Elt F) ℓ} {c : Dev nD}
    (h : ∀ b ∈ Pipeline.ucRefs τ sig, mem (((c : Thread nD τ)).1, b) = U5 m c b) (b : Ref sig .tc)
    (hb : ¬ (Proc.devRef .tc b : DevRef τ sig).isScoped) : mem ((c.tc : Thread nD τ).loc b) = U5 m c (Proc.devRef .tc b) :=
  h _ (mem_uc b hb)
/-- What the run leaves in an argument. -/
theorem end_arg {mem : (ℓ : Loc nD τ sig) → Buf (Elt F) ℓ} {c : Dev nD}
    (h : ∀ b ∈ Pipeline.ucRefs τ sig, mem (((c : Thread nD τ)).1, b) = U5 m c b) (b : Ref sig .tc)
    (hb : ¬ (Proc.devRef .tc b : DevRef τ sig).isScoped) (ha : b ∈ args) : mem ((c.tc : Thread nD τ).loc b) = m ((c.tc : Thread nD τ).loc b) :=
  (end_at m h b hb).trans (U5_args m c b ha)

/-- The frame: every execution terminates without fault, the arguments end as launched, every semaphore at zero. -/
theorem frame_all : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨end_arg m (h.1 c) main_arg0 (by decide) (by decide),
    end_arg m (h.1 c) main_arg1 (by decide) (by decide),
    end_arg m (h.1 c) main_arg2 (by decide) (by decide),
    end_arg m (h.1 c) main_arg3 (by decide) (by decide),
    end_arg m (h.1 c) main_arg4 (by decide) (by decide),
    end_arg m (h.1 c) main_arg5 (by decide) (by decide),
    end_arg m (h.1 c) main_arg6 (by decide) (by decide),
    end_arg m (h.1 c) main_arg7 (by decide) (by decide),
    end_arg m (h.1 c) main_arg8 (by decide) (by decide),
    end_arg m (h.1 c) main_arg9 (by decide) (by decide)⟩, h.2⟩) (run_all m ρ)

end Cert.KernelIdeal.Body

end
-- ==== Proof.Near.lean ====
/-
  The nearest tokens of a token, in order: what a stable sort of a row of real distances leaves at each position.
-/
module

public import Idealize.ShloMosaic.Lib.SortFacts
public import Idealize.ShloMosaic.Lib.Pointwise

@[expose] public section

noncomputable section

namespace Cert.Near

open Idealize.ShloMosaic

variable {n : ℕ}

/-- Before in order: a smaller distance, or the same distance at a lower position. -/
def Lex (d : Fin n → ℝ) (a b : Fin n) : Prop := d a < d b ∨ (d a = d b ∧ a < b)

theorem Lex.trans {d : Fin n → ℝ} {a b c : Fin n} (h : Lex d a b) (h' : Lex d b c) : Lex d a c := by
  unfold Lex at *
  rcases h with h | ⟨h, g⟩ <;> rcases h' with h' | ⟨h', g'⟩
  · exact .inl (h.trans h')
  · exact .inl (h'  ▸ h)
  · exact .inl (h ▸ h')
  · exact .inr ⟨h.trans h', g.trans g'⟩

/-- Putting a position lower than all those of an ordered list in its place keeps the list ordered. -/
theorem insert_lex (d : Fin n → ℝ) (a : Fin n) (l : List (Fin n)) (hl : l.Pairwise (Lex d)) (ha : ∀ b ∈ l, a < b) :
    (insertBefore (fun k k' => decide (d k < d k')) a l).Pairwise (Lex d) := by
  induction l with
  | nil => exact List.pairwise_singleton _ _
  | cons b l ih =>
    have hl' := List.pairwise_cons.mp hl
    unfold insertBefore
    by_cases hb : d b < d a
    · rw [if_pos (by simpa using hb)]
      refine List.pairwise_cons.mpr ⟨fun c hc => ?_, ih hl'.2 fun c hc => ha c (List.mem_cons_of_mem _ hc)⟩
      rcases List.mem_cons.mp ((perm_insertBefore _ a l).mem_iff.mp hc) with rfl | hc
      · exact .inl hb
      · exact hl'.1 c hc
    · rw [if_neg (by simpa using hb)]
      have hab : Lex d a b := by
        rcases lt_or_eq_of_le (not_lt.mp hb) with h | h
        · exact .inl h
        · exact .inr ⟨h, ha b List.mem_cons_self⟩
      refine List.pairwise_cons.mpr ⟨fun c hc => ?_, hl⟩
      rcases List.mem_cons.mp hc with rfl | hc
      · exact hab
      · exact hab.trans (hl'.1 c hc)

theorem stable_lex (d : Fin n → ℝ) (l : List (Fin n)) (hl : l.Pairwise (· < ·)) :
    (stableSort (fun k k' => decide (d k < d k')) l).Pairwise (Lex d) := by
  induction l with
  | nil => exact List.Pairwise.nil
  | cons a l ih =>
    have hl' := List.pairwise_cons.mp hl
    unfold stableSort
    exact insert_lex d a _ (ih hl'.2) fun b hb => hl'.1 b ((perm_stableSort _ l).mem_iff.mp hb)

/-- The `j`-th nearest. -/
def near (d : Fin n → ℝ) (j : Fin n) : Fin n := sortedFrom (fun k k' => decide (d k < d k')) j

theorem near_injective (d : Fin n → ℝ) : Function.Injective (near d) := sortedFrom_injective _
theorem near_surjective (d : Fin n → ℝ) : Function.Surjective (near d) := sortedFrom_surjective _

/-- Earlier positions are before later ones. -/
theorem near_lex (d : Fin n → ℝ) {i j : Fin n} (h : i < j) : Lex d (near d i) (near d j) := by
  have hp := List.pairwise_iff_get.mp (stable_lex d (List.finRange n) (List.pairwise_lt_finRange n))
  exact hp _ _ h

/-- A position that is none of the first `j` is the `j`-th nearest or comes after it. -/
theorem near_least (d : Fin n → ℝ) (j r : Fin n) (hr : ∀ i < j, near d i ≠ r) : near d j = r ∨ Lex d (near d j) r := by
  obtain ⟨i, rfl⟩ := near_surjective d r
  rcases lt_trichotomy i j with h | h | h
  · exact absurd rfl (hr i h)
  · exact .inl (h ▸ rfl)
  · exact .inr (near_lex d h)

theorem near_def (d : Fin n → ℝ) (j : Fin n) : near d j = sortedFrom (fun k k' => decide (d k < d k')) j := rfl

attribute [irreducible] near

end Cert.Near

end
-- ==== Proof.Reals.lean ====
/-
  Real numbers inside the extended reals: sums, maxima, quotients, and the two programs' constants.
-/
module

public import Idealize.ShloMosaic.Lib.Pointwise
public import Idealize.ShloMosaic.Lib.IdealHost

@[expose] public section

noncomputable section

namespace Cert.Reals

open Idealize.ShloMosaic

/-- A sum of reals is a real. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greater of two reals is a real. -/
theorem coe_max (a b : ℝ) : max (a : EReal) (b : EReal) = ((max a b : ℝ) : EReal) :=
  (EReal.coe_strictMono.monotone.map_max).symm

/-- A quotient of reals, the divisor not zero, is a real. -/
theorem coe_div (a : ℝ) {b : ℝ} (h : b ≠ 0) : Ideal.div (a : EReal) (b : EReal) = ((a / b : ℝ) : EReal) := by
  rw [Ideal.div_coe h, ← EReal.coe_mul]; congr 1; ring

/-- The square root of a real that is not negative. -/
theorem coe_sqrt {a : ℝ} (h : 0 ≤ a) : Ideal.sqrt (a : EReal) = ((√a : ℝ) : EReal) := by
  rw [Ideal.sqrt_coe, if_neg (not_lt.mpr h)]

/-- One over the square root of a positive real. -/
theorem coe_rsqrt {a : ℝ} (h : 0 < a) : Ideal.rsqrt (a : EReal) = (((√a)⁻¹ : ℝ) : EReal) := by
  rw [Ideal.rsqrt_coe, if_neg (not_lt.mpr h.le), if_neg h.ne']

/-- The constant two. -/
theorem ofBits_two : Ideal.ofBits .f32 0x40000000#32 = ((2 : ℝ) : EReal) := by
  simp [Ideal.ofBits, Ideal.ieee]
  norm_num
  rw [← EReal.coe_mul]
  norm_num
/-- The number of tokens of all samples. -/
theorem ofBits_count : Ideal.ofBits .f32 0x45A20000#32 = ((5184 : ℝ) : EReal) := by
  simp [Ideal.ofBits, Ideal.ieee]
  norm_num
  rw [← EReal.coe_mul]
  norm_num
/-- The rectifier's slope, as its word's rational. -/
def slope : ℝ := 13421773 / 67108864
theorem ofBits_slope : Ideal.ofBits .f32 0x3E4CCCCD#32 = (slope : EReal) := by
  unfold slope
  simp [Ideal.ofBits, Ideal.ieee]
  norm_num
  rw [← EReal.coe_mul]
  norm_num
/-- The constant added to the variance, as its word's rational. -/
def small : ℝ := 10995116 / 1099511627776
theorem ofBits_small : Ideal.ofBits .f32 0x3727C5AC#32 = (small : EReal) := by
  unfold small
  simp [Ideal.ofBits, Ideal.ieee]
  norm_num
  rw [← EReal.coe_mul]
  norm_num
theorem small_pos : 0 < small := by unfold small; norm_num
theorem ofBits_top : Ideal.ofBits .f32 0x7F800000#32 = ⊤ := by
  simp [Ideal.ofBits, Ideal.ieee]
theorem ofBits_bot : Ideal.ofBits .f32 0xFF800000#32 = ⊥ := by
  simp [Ideal.ofBits, Ideal.ieee]

/-- A word below 81, read signed. -/
theorem toInt_small {k : ℕ} (h : k < 20000) : (BitVec.ofNat 32 k).toInt = (k : ℤ) := by
  rw [BitVec.toInt_eq_toNat_bmod, BitVec.toNat_ofNat, Int.bmod_def]; omega
theorem ofNat_inj {k l : ℕ} (hk : k < 20000) (hl : l < 20000) : BitVec.ofNat 32 k = BitVec.ofNat 32 l ↔ k = l := by
  constructor
  · intro h
    have := congrArg BitVec.toInt h
    rw [toInt_small hk, toInt_small hl] at this
    exact_mod_cast this
  · rintro rfl; rfl

theorem toInt_fin {n : ℕ} (h : n ≤ 20000) (j : Fin n) : (BitVec.ofNat 32 j.val).toInt = (j.val : ℤ) := toInt_small (lt_of_lt_of_le j.isLt h)
/-- Two small words compared. -/
theorem cmpi_small {k l : ℕ} (hk : k < 20000) (hl : l < 20000) :
    IntOp.cmpi .eq (BitVec.ofNat 32 k) (BitVec.ofNat 32 l) = BitVec.ofBool (decide (k = l)) := by
  by_cases h : k = l
  · subst h; simp [IntOp.cmpi]
  · have : ¬ BitVec.ofNat 32 k = BitVec.ofNat 32 l := fun e => h ((ofNat_inj hk hl).mp e)
    simp [IntOp.cmpi, h, beq_eq_false_iff_ne.mpr this]

/-- A choice by a truth value. -/
theorem select_bool {α : Type} (b : Bool) (x y : α) : Scalar.select (BitVec.ofBool b) x y = if b then x else y := by cases b <;> rfl

/-- One where two numbers agree, zero elsewhere, as the printed text computes it. -/
theorem ind_eq (b : Bool) : (FloatOps.sitofp .f32 (BitVec.setWidth 32 (BitVec.ofBool b)) : Ideal .f32) = if b then 1 else 0 := by
  cases b <;> simp [FloatOps.sitofp]

/-- A whole number below 20000 converted to an integer word. -/
theorem fptosi_small {k : ℕ} (h : k < 20000) :
    (FloatOps.fptosi (F := Ideal) (φ := .f32) 32 ((k : ℝ) : EReal) : BitVec 32) = BitVec.ofNat 32 k := by
  show BitVec.ofInt 32 (max (-((2 ^ (32 - 1) : ℕ) : ℤ)) (min (((2 ^ (32 - 1) : ℕ) : ℤ) - 1) (if (0 : ℝ) ≤ (k : ℝ) then ⌊(k : ℝ)⌋ else ⌈(k : ℝ)⌉))) = _
  have hk : (0 : ℝ) ≤ k := Nat.cast_nonneg k
  rw [if_pos hk, Int.floor_natCast]
  rw [show max (-((2 ^ (32 - 1) : ℕ) : ℤ)) (min (((2 ^ (32 - 1) : ℕ) : ℤ) - 1) (k : ℤ)) = (k : ℤ) by norm_num; omega]
  exact BitVec.ofInt_natCast 32 k

/-- The least of words, read signed. -/
theorem fold_minsi {ι : Type} (s : Finset ι) (b : BitVec 32) (f : ι → BitVec 32) :
    (s.fold IntOp.minsi b f).toInt = s.fold min b.toInt fun x => (f x).toInt := by
  rw [← Finset.fold_hom (op := IntOp.minsi) (op' := min) (m := BitVec.toInt)]
  intro x y
  show (if x.slt y then x else y).toInt = min x.toInt y.toInt
  rw [BitVec.slt_eq_decide]
  by_cases h : x.toInt < y.toInt
  · simp [h, h.le]
  · simp [h, not_lt.mp h]

end Cert.Reals

end
-- ==== Proof.Pick.lean ====
/-
  The kernel's nine rounds of choosing the least distance are the first nine places of the stable sort.
-/
module

public import proofs.«01_k».proof.Proof.Sample
public import proofs.«01_k».proof.Proof.Near
public import proofs.«01_k».proof.Proof.Reals

@[expose] public section

noncomputable section

namespace Cert.Attn

open Cert.KernelIdeal Cert.KernelIdeal.Gen Cert.Near Cert.Reals
open Idealize.ShloMosaic Idealize.SL.Sem

/-- In a row the lowest column holding the least entry. -/
theorem rowSel_eq (d : FVec Ideal S81x81 .f32) (p j : Fin 81) (hmin : ∀ r, d (ix2 p j) ≤ d (ix2 p r))
    (hfirst : ∀ r < j, d (ix2 p r) ≠ d (ix2 p j)) : rowSel d (ix2 p 0) = BitVec.ofNat 32 j.val := by
  have hm : Finset.fold min (⊤ : EReal) (fun r => d (ix2 p r)) Finset.univ = d (ix2 p j) := by
    refine le_antisymm ?_ ?_
    · exact (Finset.fold_min_le _).mpr (.inr ⟨j, Finset.mem_univ _, le_rfl⟩)
    · exact (Finset.le_fold_min _).mpr ⟨le_top, fun r _ => hmin r⟩
  pointwise [rowSel, colI]
  rw [ofBits_top, hm]
  apply BitVec.eq_of_toInt_eq
  rw [fold_minsi, toInt_fin (by norm_num) j]
  refine le_antisymm ?_ ?_
  · refine (Finset.fold_min_le _).mpr (.inr ⟨j, Finset.mem_univ _, ?_⟩)
    rw [if_pos rfl, toInt_fin (by norm_num) j]
  · refine (Finset.le_fold_min _).mpr ⟨?_, fun r _ => ?_⟩
    · show (j.val : ℤ) ≤ 2147483647
      omega
    · by_cases h : d (ix2 p r) = d (ix2 p j)
      · rw [if_pos h, toInt_fin (by norm_num) r]
        have : ¬ r < j := fun hr => hfirst r hr h
        exact_mod_cast Fin.not_lt.mp this
      · rw [if_neg h]
        show (j.val : ℤ) ≤ 10000
        omega

/-- The distances `D` of a row after `n` rounds: the first `n` nearest are out. -/
def after (D : Fin 81 → ℝ) (n : ℕ) (r : Fin 81) : EReal := if ∃ i : Fin 81, i.val < n ∧ near D i = r then ⊤ else (D r : EReal)

/-- The round that finds the first `n` nearest out chooses the next one. -/
theorem rowSel_after (d : FVec Ideal S81x81 .f32) (D : Fin 81 → ℝ) (p : Fin 81) (n : Fin 81) (hd : ∀ r, d (ix2 p r) = after D n.val r) :
    rowSel d (ix2 p 0) = BitVec.ofNat 32 (near D n).val := by
  have hn : d (ix2 p (near D n)) = (D (near D n) : EReal) := by
    rw [hd, after, if_neg]
    rintro ⟨i, hi, h⟩
    rw [near_injective D h] at hi
    exact lt_irrefl _ hi
  have key : ∀ r, d (ix2 p r) = ⊤ ∨ (d (ix2 p r) = (D r : EReal) ∧ (near D n = r ∨ Lex D (near D n) r)) := fun r => by
    rw [hd, after]
    by_cases h : ∃ i : Fin 81, i.val < n.val ∧ near D i = r
    · exact .inl (if_pos h)
    · rw [if_neg h]
      exact .inr ⟨rfl, near_least D n r fun i hi e => h ⟨i, hi, e⟩⟩
  refine rowSel_eq d p _ (fun r => ?_) (fun r hr => ?_)
  · rw [hn]
    rcases key r with h | ⟨h, e | e⟩
    · rw [h]; exact le_top
    · rw [h, e]
    · rw [h, EReal.coe_le_coe_iff]
      rcases e with e | e
      · exact e.le
      · exact e.1.le
  · rw [hn]
    rcases key r with h | ⟨h, e | e⟩
    · rw [h]; exact (EReal.coe_ne_top _).symm
    · exact absurd e.symm (ne_of_lt hr)
    · rw [h]
      intro he
      rcases e with e | e
      · exact absurd (EReal.coe_eq_coe_iff.mp he) e.ne'
      · exact absurd hr (not_lt.mpr e.2.le)

/-- One more round: one more of the nearest is out. -/
theorem after_succ (D : Fin 81 → ℝ) (n r : Fin 81) : after D (n.val + 1) r = if r = near D n then ⊤ else after D n.val r := by
  unfold after
  by_cases h : r = near D n
  · rw [if_pos ⟨n, Nat.lt_succ_self _, h.symm⟩, if_pos h]
  · rw [if_neg h]
    refine if_congr ⟨?_, ?_⟩ rfl rfl
    · rintro ⟨i, hi, e⟩
      refine ⟨i, ?_, e⟩
      rcases Nat.lt_succ_iff_lt_or_eq.mp hi with hi | hi
      · exact hi
      · rw [Fin.ext hi] at e; exact absurd e.symm h
    · rintro ⟨i, hi, e⟩
      exact ⟨i, Nat.lt_succ_of_lt hi, e⟩

/-- Every round leaves out one more of the nearest. -/
theorem rounds_after (d : FVec Ideal S81x81 .f32) (D : Fin 81 → ℝ) (p : Fin 81) (hd : ∀ r, d (ix2 p r) = (D r : EReal)) :
    ∀ n : ℕ, n ≤ 81 → ∀ r, rounds (F := Ideal) (⊤ : EReal) d n (ix2 p r) = after D n r
  | 0, _, r => by
    rw [after, if_neg (by simp)]; exact hd r
  | n + 1, hn, r => by
    have ih := rounds_after d D p hd n (by omega)
    have hs := rowSel_after _ D p ⟨n, by omega⟩ ih
    show knock (F := Ideal) (⊤ : EReal) (rounds (F := Ideal) (⊤ : EReal) d n) (ix2 p r) = _
    pointwise [knock, colI]
    rw [hs, ih r, cmpi_small (by omega) (by omega), select_bool, after_succ D ⟨n, hn⟩]
    simp only [decide_eq_true_eq, Fin.ext_iff]

/-- Round `n` chooses the `n`-th nearest. -/
theorem rowSel_rounds (d : FVec Ideal S81x81 .f32) (D : Fin 81 → ℝ) (p : Fin 81) (hd : ∀ r, d (ix2 p r) = (D r : EReal)) (n : Fin 81) :
    rowSel (rounds (F := Ideal) (⊤ : EReal) d n.val) (ix2 p 0) = BitVec.ofNat 32 (near D n).val :=
  rowSel_after _ D p n (rounds_after d D p hd n.val n.isLt.le)

/-- The row of chosen columns holds column `p`'s choice, or 10000 in the padding. -/
theorem selT_eq (d : FVec Ideal S81x81 .f32) (p : Fin 81) (k : ℕ) (hk : k < 20000) (h : rowSel d (ix2 p 0) = BitVec.ofNat 32 k)
    (hr : ∀ r, ∃ l : ℕ, l < 20000 ∧ rowSel d (ix2 r 0) = BitVec.ofNat 32 l) :
    selT d (ix2 0 ⟨p.val, by omega⟩) = BitVec.ofNat 32 k := by
  choose f hf using hr
  have hfp : f p = k := (ofNat_inj (hf p).1 hk).mp ((hf p).2.symm.trans h)
  have hs : ∀ x : Fin 81, (FloatOps.sitofp .f32 (rowSel d (ix2 x 0)) : Ideal .f32) = ((f x : ℝ) : EReal) := fun x => by
    rw [(hf x).2]
    show (((BitVec.ofNat 32 (f x)).toInt : ℝ) : EReal) = _
    rw [toInt_small (hf x).1]; rfl
  pointwise [selT, colI, eyeM]
  simp only [hs, cmpi_small (lt_of_lt_of_le (Fin.isLt _) (by norm_num : 81 ≤ 20000)) (lt_of_lt_of_le (Fin.isLt _) (by norm_num : 81 ≤ 20000)), ind_eq]
  rw [Finset.sum_eq_single p]
  · rw [decide_eq_true rfl, if_pos rfl, one_mul, hfp]
    exact fptosi_small hk
  · intro b _ hb
    have : ¬ b.val = p.val := fun e => hb (Fin.ext e)
    simp [this]
  · intro hp; exact absurd (Finset.mem_univ _) hp

end Cert.Attn

end
-- ==== Proof.Spec.lean ====
/-
  What the kernel and the reference compute, over the real numbers: nearest-neighbour attention of one sample, and the
  normalisation over all samples.
-/
module

public import proofs.«01_k».proof.Proof.Near
public import proofs.«01_k».proof.Proof.Reals

@[expose] public section

noncomputable section

namespace Cert.Spec

open Cert.Near Cert.Reals

/-- Inner product of two tokens of a sample (channel by token). -/
def gramR (X : Fin 768 → Fin 81 → ℝ) (p r : Fin 81) : ℝ := ∑ c, X c p * X c r

/-- Distance of two tokens. -/
def distR (X : Fin 768 → Fin 81 → ℝ) (p r : Fin 81) : ℝ := √(max (gramR X p p + gramR X r r - 2 * gramR X p r) 0)

/-- A projection: output channel `c` of token `p`. -/
def projR (W : Fin 768 → Fin 768 → ℝ) (b : Fin 768 → ℝ) (X : Fin 768 → Fin 81 → ℝ) (c : Fin 768) (p : Fin 81) : ℝ :=
  ∑ k, W c k * X k p + b c

/-- Token `p`'s `j`-th nearest token. -/
def nb (X : Fin 768 → Fin 81 → ℝ) (p : Fin 81) (j : Fin 9) : Fin 81 := near (distR X p) ⟨j.val, by omega⟩

/-- The leaky rectifier. -/
def leakyR (t : ℝ) : ℝ := if 0 ≤ t then t else slope * t

/-- Channel `d` of head `h`. -/
def chan (h : Fin 4) (d : Fin 192) : Fin 768 := ⟨192 * h.val + d.val, by omega⟩
/-- The head of a channel. -/
def headOf (c : Fin 768) : Fin 4 := ⟨c.val / 192, by omega⟩

/-- Head `h`'s score of a query and a key. -/
def scoreR (a : Fin 4 → Fin 192 → ℝ) (q k : Fin 768 → ℝ) (h : Fin 4) : ℝ :=
  ∑ d, leakyR (q (chan h d) + k (chan h d)) * a h d

/-- The greatest of nine. -/
def topR (s : Fin 9 → ℝ) : ℝ := max (max (max (max (max (max (max (max (s 0) (s 1)) (s 2)) (s 3)) (s 4)) (s 5)) (s 6)) (s 7)) (s 8)

/-- The exponential of a score less the greatest. -/
def expR (s : Fin 9 → ℝ) (j : Fin 9) : ℝ := Real.exp (s j - topR s)

/-- The weighted mean of nine values, weighted by the scores' exponentials. -/
def softR (s v : Fin 9 → ℝ) : ℝ := ∑ j, expR s j / (∑ i, expR s i) * v j

theorem sum_exp_pos (s : Fin 9 → ℝ) : 0 < ∑ i, expR s i := Finset.sum_pos (fun i _ => Real.exp_pos _) ⟨0, Finset.mem_univ _⟩

/-- The attention's weights and biases. -/
structure Par where
  (Wq Wk Wv : Fin 768 → Fin 768 → ℝ)
  (bq bk bv : Fin 768 → ℝ)
  (a : Fin 4 → Fin 192 → ℝ)

/-- The nine scores of token `p` at head `h`. -/
def scoresR (P : Par) (X : Fin 768 → Fin 81 → ℝ) (h : Fin 4) (p : Fin 81) (j : Fin 9) : ℝ :=
  scoreR P.a (fun c => projR P.Wq P.bq X c p) (fun c => projR P.Wk P.bk X c (nb X p j)) h

/-- The attention output of a sample at channel `c` of token `p`. -/
def outR (P : Par) (X : Fin 768 → Fin 81 → ℝ) (c : Fin 768) (p : Fin 81) : ℝ :=
  softR (scoresR P X (headOf c) p) fun j => projR P.Wv P.bv X c (nb X p j)

/-- The mean of a channel over all samples and tokens. -/
def meanR (O : Fin 64 → Fin 81 → ℝ) : ℝ := (∑ n, ∑ p, O n p) / 5184
/-- The variance of a channel over all samples and tokens. -/
def varR (O : Fin 64 → Fin 81 → ℝ) : ℝ := (∑ n, ∑ p, (O n p - meanR O) * (O n p - meanR O)) / 5184

theorem varR_nonneg (O : Fin 64 → Fin 81 → ℝ) : 0 ≤ varR O :=
  div_nonneg (Finset.sum_nonneg fun _ _ => Finset.sum_nonneg fun _ _ => mul_self_nonneg _) (by norm_num)

/-- The variance is the mean of the squares less the square of the mean. -/
theorem varR_eq (O : Fin 64 → Fin 81 → ℝ) : varR O = (∑ n, ∑ p, O n p * O n p) / 5184 - meanR O * meanR O := by
  have h : ∀ m : ℝ, (∑ n : Fin 64, ∑ p : Fin 81, (O n p - m) * (O n p - m))
      = (∑ n, ∑ p, O n p * O n p) - 2 * m * (∑ n, ∑ p, O n p) + 5184 * (m * m) := fun m => by
    have e : ∀ n p, (O n p - m) * (O n p - m) = O n p * O n p - 2 * m * O n p + m * m := fun n p => by ring
    simp only [e, Finset.sum_add_distrib, Finset.sum_sub_distrib, ← Finset.mul_sum, Finset.sum_const, Finset.card_univ, Fintype.card_fin,
      nsmul_eq_mul]
    push_cast; ring
  unfold varR
  rw [h]
  unfold meanR
  ring

/-- The result: the normalised output, scaled and shifted, plus the input, through the rectifier. -/
def resR (O : Fin 64 → Fin 81 → ℝ) (g b : ℝ) (o x : ℝ) : ℝ :=
  max ((o - meanR O) / √(varR O + small) * g + b + x) 0

/-- The same, as scale and shift computed from the mean and the mean of squares. -/
theorem resR_scale (O : Fin 64 → Fin 81 → ℝ) (g b o x : ℝ) :
    resR O g b o x = max (o * (g * (√(varR O + small))⁻¹) + (b - meanR O * (g * (√(varR O + small))⁻¹)) + x) 0 := by
  unfold resR
  congr 1
  rw [div_eq_mul_inv]; ring

end Cert.Spec

end
-- ==== Proof.Att.lean ====
/-
  The kernel's attention of one sample, over the extended reals with real arguments, is the real attention.
-/
module

public import proofs.«01_k».proof.Proof.Pick
public import proofs.«01_k».proof.Proof.Spec

@[expose] public section

set_option maxHeartbeats 1000000

noncomputable section

namespace Cert.Attn

open Cert.KernelIdeal Cert.KernelIdeal.Gen Cert.Near Cert.Reals Cert.Spec
open Idealize.ShloMosaic Idealize.SL.Sem

/-- The distances. -/
theorem dist_real (x : FVec Ideal S768x81 .f32) (X : Fin 768 → Fin 81 → ℝ) (hx : ∀ c p, x (ix2 c p) = (X c p : EReal)) (p r : Fin 81) :
    dist x (ix2 p r) = (distR X p r : EReal) := by
  pointwise [dist, sqCol, sqRow, gram, eyeM, colI]
  simp only [cmpi_small (lt_of_lt_of_le (Fin.isLt _) (by norm_num : 81 ≤ 20000)) (lt_of_lt_of_le (Fin.isLt _) (by norm_num : 81 ≤ 20000)), ind_eq,
    hx, ofBits_two]
  rw [Finset.sum_eq_single p]
  · rw [decide_eq_true rfl, if_pos rfl, one_mul]
    simp only [← EReal.coe_mul, coe_sum, ← EReal.coe_add, ← EReal.coe_sub]
    rw [← EReal.coe_zero, coe_max, coe_sqrt (le_max_right _ _)]
    rfl
  · intro b _ hb
    have : ¬ p.val = b.val := fun e => hb (Fin.ext e.symm)
    rw [decide_eq_false this]; simp
  · intro hp; exact absurd (Finset.mem_univ _) hp

/-- The stacked projections. -/
theorem proj_real (w : FVec Ideal S2304x768 .bf16) (b : FVec Ideal S2304x1 .f32) (x : FVec Ideal S768x81 .f32)
    (X : Fin 768 → Fin 81 → ℝ) (hx : ∀ c p, x (ix2 c p) = (X c p : EReal)) (W : Fin 768 → Fin 768 → ℝ) (B : Fin 768 → ℝ) (o : ℕ) (ho : o + 768 ≤ 2304)
    (hw : ∀ c k : Fin 768, w (ix2 ⟨o + c.val, by omega⟩ k) = (W c k : EReal)) (hb : ∀ c : Fin 768, b (ix2 ⟨o + c.val, by omega⟩ 0) = (B c : EReal))
    (c : Fin 768) (p : Fin 81) : proj w b x (ix2 ⟨o + c.val, by omega⟩ p) = (projR W B X c p : EReal) := by
  pointwise [proj]
  simp only [hx, hw, hb, ← EReal.coe_mul, coe_sum, ← EReal.coe_add]
  rfl

/-- Nine panels of 128 side by side, read at a column of panel `j`. -/
theorem ladder (f : ℕ → Fin 128 → BitVec 32) (j : Fin 9) (p : Fin 128) (c : ℕ) (hc : c = 128 * j.val + p.val) :
    (if h0 : c < 128 then f 0 ⟨c, h0⟩ else
    if h1 : c - 128 < 128 then f 1 ⟨c - 128, h1⟩ else
    if h2 : c - 128 - 128 < 128 then f 2 ⟨c - 128 - 128, h2⟩ else
    if h3 : c - 128 - 128 - 128 < 128 then f 3 ⟨c - 128 - 128 - 128, h3⟩ else
    if h4 : c - 128 - 128 - 128 - 128 < 128 then f 4 ⟨c - 128 - 128 - 128 - 128, h4⟩ else
    if h5 : c - 128 - 128 - 128 - 128 - 128 < 128 then f 5 ⟨c - 128 - 128 - 128 - 128 - 128, h5⟩ else
    if h6 : c - 128 - 128 - 128 - 128 - 128 - 128 < 128 then f 6 ⟨c - 128 - 128 - 128 - 128 - 128 - 128, h6⟩ else
    if h7 : c - 128 - 128 - 128 - 128 - 128 - 128 - 128 < 128 then f 7 ⟨c - 128 - 128 - 128 - 128 - 128 - 128 - 128, h7⟩ else
    f 8 ⟨c - 128 - 128 - 128 - 128 - 128 - 128 - 128 - 128, by omega⟩) = f j.val p := by
  obtain ⟨j, hj⟩ := j
  dsimp only at hc
  have key : ∀ (a : Fin 128 → BitVec 32) (q : Fin 128), q.val = p.val → a q = a p := by
    intro a q h; rw [Fin.ext h]
  interval_cases j <;> (repeat' split) <;> first
      | (exfalso; omega)
      | (refine key _ _ ?_; dsimp only <;> omega)

/-- Panel `j` of the one-hot matrix, at column `p` of the panel. -/
theorem oneHot_panel (big : Ideal .f32) (d : FVec Ideal S81x81 .f32) (t : Fin 81) (j : Fin 9) (p : Fin 128) :
    oneHot big d (ix2 t ⟨128 * j.val + p.val, by omega⟩) = IntOp.cmpi .eq (BitVec.ofNat 32 t.val) (selT (rounds big d j.val) (ix2 0 p)) := by
  pointwise [oneHot]
  congr 1
  exact ladder (fun n q => selT (rounds big d n) (ix2 0 q)) j p _ rfl

/-- A column of the panels, as its panel and token. -/
def col (j : Fin 9) (p : Fin 81) : Fin 1152 := ⟨128 * j.val + p.val, by omega⟩

/-- The one-hot matrix marks the `j`-th nearest token. -/
theorem oneHot_real (x : FVec Ideal S768x81 .f32) (X : Fin 768 → Fin 81 → ℝ) (hx : ∀ c p, x (ix2 c p) = (X c p : EReal))
    (t : Fin 81) (j : Fin 9) (p : Fin 81) :
    oneHot (F := Ideal) (⊤ : EReal) (dist x) (ix2 t (col j p)) = BitVec.ofBool (decide (t = nb X p j)) := by
  have hrow : ∀ r : Fin 81, rowSel (rounds (F := Ideal) (⊤ : EReal) (dist x) j.val) (ix2 r 0)
      = BitVec.ofNat 32 (near (distR X r) ⟨j.val, by omega⟩).val := fun r =>
    rowSel_rounds (dist x) (distR X r) r (fun q => dist_real x X hx r q) ⟨j.val, by omega⟩
  have h1 := oneHot_panel (⊤ : EReal) (dist x) t j ⟨p.val, by omega⟩
  have h2 := selT_eq _ p _ (by omega) (hrow p) fun r => ⟨_, by omega, hrow r⟩
  refine h1.trans ?_
  rw [h2, cmpi_small (by omega) (by omega)]
  congr 1
  simp only [Fin.ext_iff]
  rfl

/-- A sum against a mark is the marked term. -/
theorem sum_mark {n : ℕ} (t : Fin n) (f : Fin n → ℝ) : ∑ x, f x * (if decide (x = t) = true then (1 : ℝ) else 0) = f t := by
  simp

/-- A mark as a real. -/
theorem mark_coe (b : Bool) : (if b = true then (1 : EReal) else 0) = ((if b = true then (1 : ℝ) else 0 : ℝ) : EReal) := by
  cases b <;> simp

/-- The gathered keys. -/
theorem gathered_real (k : FVec Ideal S768x81 .f32) (K : Fin 768 → Fin 81 → ℝ) (hk : ∀ c p, k (ix2 c p) = (K c p : EReal))
    (oh : IVec S81x1152 1) (cl : Fin 1152) (t0 : Fin 81) (ho : ∀ t, oh (ix2 t cl) = BitVec.ofBool (decide (t = t0))) (c : Fin 768) :
    gathered k oh (ix2 c cl) = (K c t0 : EReal) := by
  pointwise [gathered, lowPart]
  simp only [hk, ho, ind_eq, mark_coe, ← EReal.coe_mul, ← EReal.coe_sub, coe_sum, ← EReal.coe_add, sub_self, zero_mul, Finset.sum_const_zero,
    add_zero, sum_mark]

/-- The rectifier. -/
theorem leaky_real (v : FVec Ideal S768x128 .f32) (i : S768x128.Idx) (t : ℝ) (h : v i = (t : EReal)) : leaky v i = (leakyR t : EReal) := by
  pointwise [leaky]
  rw [h, ofBits_slope, ← EReal.coe_mul]
  unfold leakyR
  by_cases ht : 0 ≤ t
  · rw [if_pos ht, if_pos (EReal.coe_nonneg.mpr ht)]
  · rw [if_neg ht, if_neg fun e => ht (EReal.coe_nonneg.mp e)]

/-- A sum over the channels is the sum over the heads of the sums over the head's channels. -/
theorem sum_chan (f : Fin 768 → ℝ) : ∑ c, f c = ∑ h : Fin 4, ∑ d : Fin 192, f (chan h d) := by
  rw [← Fintype.sum_prod_type' fun (h : Fin 4) (d : Fin 192) => f (chan h d)]
  refine (Fintype.sum_equiv (finProdFinEquiv (m := 4) (n := 192)) _ f fun x => ?_).symm
  congr 1
  simp [chan, Fin.ext_iff, finProdFinEquiv]
  omega

/-- One panel's scores. -/
theorem scoreOf_real (a2 : FVec Ideal S8x768 .bf16) (A : Fin 4 → Fin 192 → ℝ)
    (ha : ∀ (h : Fin 4) (h' : Fin 4) (d : Fin 192), a2 (ix2 ⟨h.val, by omega⟩ (chan h' d)) = ((if h = h' then A h' d else 0 : ℝ) : EReal))
    (hl : ∀ (h : Fin 4) (c : Fin 768), a2 (ix2 ⟨4 + h.val, by omega⟩ c) = 0)
    (v : FVec Ideal S768x128 .f32) (p : Fin 128) (t : Fin 768 → ℝ) (hv : ∀ c, v (ix2 c p) = (t c : EReal)) (h : Fin 4) :
    scoreOf a2 v (ix2 h p) = ((∑ d, t (chan h d) * A h d : ℝ) : EReal) := by
  have hcc : ∀ c : Fin 768, a2 (ix2 ⟨h.val, by omega⟩ c)
      = ((if h = headOf c then A (headOf c) ⟨c.val % 192, by omega⟩ else 0 : ℝ) : EReal) := fun c => by
    have e : c = chan (headOf c) ⟨c.val % 192, by omega⟩ := Fin.ext (by simp only [chan, headOf]; omega)
    rw [← ha, ← e]
  pointwise [scoreOf, lowPart]
  simp only [hl, hv, hcc, ← EReal.coe_sub, ← EReal.coe_mul, sub_self, zero_mul, mul_zero, coe_sum, Finset.sum_const_zero, add_zero, ← EReal.coe_zero]
  refine EReal.coe_eq_coe_iff.mpr ?_
  rw [sum_chan]
  beta_reduce
  rw [add_zero, add_zero]
  refine (Finset.sum_eq_single (M := ℝ) h ?_ ?_).trans ?_
  · intro b _ hb
    refine Finset.sum_eq_zero fun d _ => ?_
    have e1 : headOf (chan b d) = b := Fin.ext (by simp only [chan, headOf]; omega)
    rw [e1, if_neg (fun e => hb e.symm), zero_mul]
  · intro hp; exact absurd (Finset.mem_univ _) hp
  · refine Finset.sum_congr rfl fun d _ => ?_
    have e1 : headOf (chan h d) = h := Fin.ext (by simp only [chan, headOf]; omega)
    have e2 : (⟨(chan h d).val % 192, by omega⟩ : Fin 192) = d := Fin.ext (by simp only [chan]; omega)
    rw [e1, if_pos rfl, e2, mul_comm]

/-- A token's column among the padded ones. -/
def wide (p : Fin 81) : Fin 128 := ⟨p.val, by omega⟩

/-- The score matrix: block diagonal, the low half zero. -/
structure IsScore (a2 : FVec Ideal S8x768 .bf16) (A : Fin 4 → Fin 192 → ℝ) : Prop where
  hi : ∀ (h h' : Fin 4) (d : Fin 192), a2 (ix2 ⟨h.val, by omega⟩ (chan h' d)) = ((if h = h' then A h' d else 0 : ℝ) : EReal)
  lo : ∀ (h : Fin 4) (c : Fin 768), a2 (ix2 ⟨4 + h.val, by omega⟩ c) = 0

/-- One round's scores. -/
theorem score_real (a2 : FVec Ideal S8x768 .bf16) (A : Fin 4 → Fin 192 → ℝ) (ha : IsScore a2 A)
    (q : FVec Ideal S768x128 .f32) (kg : FVec Ideal S768x1152 .f32) (p : Fin 81) (Q K : Fin 768 → ℝ) (o : ℕ) (ho : S768x1152.Slices ![0, o] S768x128)
    (hq : ∀ c, q (ix2 c (wide p)) = (Q c : EReal)) (hb : o + p.val < 1152) (hk : ∀ c, kg (ix2 c ⟨o + p.val, hb⟩) = (K c : EReal)) (h : Fin 4) :
    score a2 q kg o ho (ix2 h (wide p)) = (scoreR A Q K h : EReal) := by
  refine scoreOf_real a2 A ha.hi ha.lo _ (wide p) (fun c => leakyR (Q c + K c)) (fun c => ?_) h
  refine leaky_real _ _ _ ?_
  have e : extractStridedSlice S768x128 ![0, o] kg ho (ix2 c (wide p)) = (K c : EReal) := by
    rw [← hk c]
    pointwise [wide]
  show q (ix2 c (wide p)) + extractStridedSlice S768x128 ![0, o] kg ho (ix2 c (wide p)) = _
  rw [hq, e, EReal.coe_add]

/-- Nine values at one head and column. -/
structure At (s : Nine (FVec Ideal S4x128 .f32)) (i : S4x128.Idx) (f : Fin 9 → ℝ) : Prop where
  h0 : s.v0 i = (f 0 : EReal)
  h1 : s.v1 i = (f 1 : EReal)
  h2 : s.v2 i = (f 2 : EReal)
  h3 : s.v3 i = (f 3 : EReal)
  h4 : s.v4 i = (f 4 : EReal)
  h5 : s.v5 i = (f 5 : EReal)
  h6 : s.v6 i = (f 6 : EReal)
  h7 : s.v7 i = (f 7 : EReal)
  h8 : s.v8 i = (f 8 : EReal)

/-- A sum of nine. -/
theorem sum_nine (f : Fin 9 → ℝ) : f 0 + f 1 + f 2 + f 3 + f 4 + f 5 + f 6 + f 7 + f 8 = ∑ j, f j := by
  simp [Fin.sum_univ_succ]
  ring

/-- The greatest of the nine. -/
theorem top_real {s : Nine (FVec Ideal S4x128 .f32)} {i : S4x128.Idx} {f : Fin 9 → ℝ} (h : At s i f) : s.fold maximumf i = (topR f : EReal) := by
  unfold Nine.fold topR
  pointwise
  rw [h.h0, h.h1, h.h2, h.h3, h.h4, h.h5, h.h6, h.h7, h.h8]
  simp only [coe_max]

/-- The sum of the nine. -/
theorem sum_real {s : Nine (FVec Ideal S4x128 .f32)} {i : S4x128.Idx} {f : Fin 9 → ℝ} (h : At s i f) :
    s.fold addf i = ((∑ j, f j : ℝ) : EReal) := by
  unfold Nine.fold
  pointwise
  rw [h.h0, h.h1, h.h2, h.h3, h.h4, h.h5, h.h6, h.h7, h.h8]
  simp only [← EReal.coe_add]
  exact congrArg _ (sum_nine f)

/-- The exponentials. -/
theorem exps_real {s : Nine (FVec Ideal S4x128 .f32)} {i : S4x128.Idx} {f : Fin 9 → ℝ} (h : At s i f) : At (exps s) i (expR f) := by
  have key : ∀ (v : FVec Ideal S4x128 .f32) (j : Fin 9), v i = (f j : EReal) → exp (subf v (s.fold maximumf)) i = (expR f j : EReal) := fun v j hv => by
    show Ideal.exp (v i - s.fold maximumf i) = _
    rw [hv, top_real h, ← EReal.coe_sub, Ideal.exp_coe]
    rfl
  exact ⟨key _ 0 h.h0, key _ 1 h.h1, key _ 2 h.h2, key _ 3 h.h3, key _ 4 h.h4, key _ 5 h.h5, key _ 6 h.h6, key _ 7 h.h7, key _ 8 h.h8⟩

/-- One over their sum. -/
theorem inv_real {s : Nine (FVec Ideal S4x128 .f32)} {i : S4x128.Idx} {f : Fin 9 → ℝ} (h : At s i f) (hp : (∑ j, f j) ≠ 0) :
    invDenom s i = ((1 / ∑ j, f j : ℝ) : EReal) := by
  show Ideal.div (Ideal.ofBits .f32 0x3F800000#32) (s.fold addf i) = _
  rw [sum_real h, Ideal.ofBits_one_f32, ← EReal.coe_one, coe_div _ hp]

/-- One round's contribution to the attention matrix. -/
theorem attTerm_real (h : Fin 4) (hh : S4x128.Slices ![h.val, 0] S1x128) (inv e : FVec Ideal S4x128 .f32) (oh : IVec S81x1152 1) (o : ℕ)
    (ho : S81x1152.Slices ![0, o] S81x128) (p : Fin 128) (hb : o + p.val < 1152) (t t0 : Fin 81)
    (hoh : oh (ix2 t ⟨o + p.val, hb⟩) = BitVec.ofBool (decide (t = t0))) (g w : ℝ) (he : e (ix2 h p) = (g : EReal)) (hi : inv (ix2 h p) = (w : EReal)) :
    attTerm h.val hh inv oh o ho e (ix2 t p) = (((if decide (t = t0) = true then (1 : ℝ) else 0) * (g * w) : ℝ) : EReal) := by
  pointwise [attTerm]
  rw [hoh, ind_eq, he, hi, mark_coe, ← EReal.coe_mul, ← EReal.coe_mul]

/-- The attention matrix. -/
theorem att_real (h : Fin 4) (hh : S4x128.Slices ![h.val, 0] S1x128) (inv : FVec Ideal S4x128 .f32) (e : Nine (FVec Ideal S4x128 .f32))
    (oh : IVec S81x1152 1) (p : Fin 81) (t : Fin 81) (N : Fin 9 → Fin 81) (hoh : ∀ j, oh (ix2 t (col j p)) = BitVec.ofBool (decide (t = N j)))
    (g : Fin 9 → ℝ) (w : ℝ) (he : At e (ix2 h (wide p)) g) (hi : inv (ix2 h (wide p)) = (w : EReal)) :
    att h.val hh inv oh e (ix2 t (wide p)) = ((∑ j, (if decide (t = N j) = true then (1 : ℝ) else 0) * (g j * w) : ℝ) : EReal) := by
  have key : ∀ (j : Fin 9) (o : ℕ) (_ : o = 128 * j.val) (ho : S81x1152.Slices ![0, o] S81x128) (v : FVec Ideal S4x128 .f32)
      (_ : v (ix2 h (wide p)) = (g j : EReal)), attTerm h.val hh inv oh o ho v (ix2 t (wide p))
        = (((if decide (t = N j) = true then (1 : ℝ) else 0) * (g j * w) : ℝ) : EReal) := by
    rintro j o rfl ho v hv
    exact attTerm_real h hh inv v oh _ ho (wide p) (col j p).isLt t (N j) (hoh j) (g j) w hv hi
  unfold att Nine.fold
  pointwise
  rw [key 0 0 rfl _ _ he.h0, key 1 128 rfl _ _ he.h1, key 2 256 rfl _ _ he.h2, key 3 384 rfl _ _ he.h3, key 4 512 rfl _ _ he.h4, key 5 640 rfl _ _ he.h5,
    key 6 768 rfl _ _ he.h6, key 7 896 rfl _ _ he.h7, key 8 1024 rfl _ _ he.h8]
  simp only [← EReal.coe_add]
  exact congrArg _ (sum_nine fun j : Fin 9 => (if decide (t = N j) = true then (1 : ℝ) else 0) * (g j * w))

/-- A head's output. -/
theorem headOut_real (v : FVec Ideal S768x81 .f32) (V : Fin 768 → Fin 81 → ℝ) (hv : ∀ c p, v (ix2 c p) = (V c p : EReal)) (h : Fin 4) (o : ℕ)
    (ho : S768x81.Slices ![o, 0] S192x81) (hoh : o = 192 * h.val)
    (m : FVec Ideal S81x128 .f32) (p : Fin 128) (M : Fin 81 → ℝ) (hm : ∀ t, m (ix2 t p) = (M t : EReal)) (d : Fin 192) :
    headOut v o ho m (ix2 d p) = ((∑ t, V (chan h d) t * M t : ℝ) : EReal) := by
  subst hoh
  pointwise [headOut, lowPart]
  simp only [hv, hm, ← EReal.coe_sub, ← EReal.coe_mul, sub_self, zero_mul, mul_zero, coe_sum, Finset.sum_const_zero, ← EReal.coe_add, add_zero]
  rfl

/-- The padded queries. -/
theorem qPad_real (v : FVec Ideal S2304x81 .f32) (Q : Fin 768 → Fin 81 → ℝ) (hq : ∀ c p, v (ix2 ⟨0 + c.val, by omega⟩ p) = (Q c p : EReal))
    (c : Fin 768) (p : Fin 81) : qPad v (ix2 c (wide p)) = (Q c p : EReal) := by
  rw [← hq]
  pointwise [qPad, wide]

/-- The keys. -/
theorem kPart_real (v : FVec Ideal S2304x81 .f32) (K : Fin 768 → Fin 81 → ℝ) (hk : ∀ c p, v (ix2 ⟨768 + c.val, by omega⟩ p) = (K c p : EReal))
    (c : Fin 768) (p : Fin 81) : kPart v (ix2 c p) = (K c p : EReal) := by
  rw [← hk]
  pointwise [kPart]

/-- The values. -/
theorem vPart_real (v : FVec Ideal S2304x81 .f32) (V : Fin 768 → Fin 81 → ℝ) (hv : ∀ c p, v (ix2 ⟨1536 + c.val, by omega⟩ p) = (V c p : EReal))
    (c : Fin 768) (p : Fin 81) : vPart v (ix2 c p) = (V c p : EReal) := by
  rw [← hv]
  pointwise [vPart]

/-- Weighted sums of marked columns are the weighted mean of the marked values. -/
theorem soft_eq (s : Fin 9 → ℝ) (N : Fin 9 → Fin 81) (V : Fin 81 → ℝ) :
    (∑ t, V t * ∑ j, (if decide (t = N j) = true then (1 : ℝ) else 0) * (expR s j * (1 / ∑ i, expR s i))) = softR s fun j => V (N j) := by
  unfold softR
  simp only [Finset.mul_sum]
  rw [Finset.sum_comm]
  refine Finset.sum_congr rfl fun j _ => ?_
  have e : ∀ t, V t * ((if decide (t = N j) = true then (1 : ℝ) else 0) * (expR s j * (1 / ∑ i, expR s i)))
      = V t * (if decide (t = N j) = true then (1 : ℝ) else 0) * (expR s j * (1 / ∑ i, expR s i)) := fun t => by ring
  simp only [e, ← Finset.sum_mul, sum_mark]
  ring

/-- The heads' outputs stacked: the attention of every channel. -/
theorem merge_real (v : FVec Ideal S768x81 .f32) (V : Fin 768 → Fin 81 → ℝ) (hv : ∀ c p, v (ix2 c p) = (V c p : EReal))
    (oh : IVec S81x1152 1) (N : Fin 81 → Fin 9 → Fin 81) (hoh : ∀ t j p, oh (ix2 t (col j p)) = BitVec.ofBool (decide (t = N p j)))
    (e : Nine (FVec Ideal S4x128 .f32)) (s : Fin 4 → Fin 81 → Fin 9 → ℝ) (he : ∀ h p, At e (ix2 h (wide p)) (expR (s h p)))
    (c : Fin 768) (p : Fin 81) : merge v oh e (ix2 c p) = (softR (s (headOf c) p) (fun j => V c (N p j)) : EReal) := by
  have key : ∀ (h : Fin 4) (o n : ℕ) (hn : n = h.val) (ho : S768x81.Slices ![o, 0] S192x81) (_ : o = 192 * h.val) (hh : S4x128.Slices ![n, 0] S1x128)
      (d : Fin 192) (q : Fin 128), q = wide p → chan h d = c →
      headOut v o ho (att n hh (invDenom e) oh e) (ix2 d q) = (softR (s (headOf c) p) (fun j => V c (N p j)) : EReal) := by
    rintro h o n rfl ho hoe hh d q rfl hc
    have eh : headOf c = h := by rw [← hc]; exact Fin.ext (by simp only [chan, headOf]; omega)
    rw [headOut_real v V hv h o ho hoe _ (wide p) _ (fun t => att_real h hh (invDenom e) e oh p t (N p) (fun j => hoh t j p) (expR (s h p)) _ (he h p)
      (inv_real (he h p) (sum_exp_pos _).ne')) d, hc, eh, soft_eq]
  pointwise [merge]
  split
  · exact key 0 _ _ rfl _ rfl _ _ _ rfl (Fin.ext (by simp only [chan]; omega))
  split
  · exact key 1 _ _ rfl _ rfl _ _ _ rfl (Fin.ext (by simp [chan]; omega))
  split
  · exact key 2 _ _ rfl _ rfl _ _ _ rfl (Fin.ext (by simp [chan]; omega))
  · exact key 3 _ _ rfl _ rfl _ _ _ rfl (Fin.ext (by simp [chan]; omega))

/-- The stacked weights. -/
structure IsPar (w : FVec Ideal S2304x768 .bf16) (b : FVec Ideal S2304x1 .f32) (a2 : FVec Ideal S8x768 .bf16) (P : Par) : Prop where
  wq : ∀ c k : Fin 768, w (ix2 ⟨0 + c.val, by omega⟩ k) = (P.Wq c k : EReal)
  wk : ∀ c k : Fin 768, w (ix2 ⟨768 + c.val, by omega⟩ k) = (P.Wk c k : EReal)
  wv : ∀ c k : Fin 768, w (ix2 ⟨1536 + c.val, by omega⟩ k) = (P.Wv c k : EReal)
  bq : ∀ c : Fin 768, b (ix2 ⟨0 + c.val, by omega⟩ 0) = (P.bq c : EReal)
  bk : ∀ c : Fin 768, b (ix2 ⟨768 + c.val, by omega⟩ 0) = (P.bk c : EReal)
  bv : ∀ c : Fin 768, b (ix2 ⟨1536 + c.val, by omega⟩ 0) = (P.bv c : EReal)
  a : IsScore a2 P.a

/-- The sample's attention, at every channel and token. -/
theorem attn_real (w : FVec Ideal S2304x768 .bf16) (b : FVec Ideal S2304x1 .f32) (a2 : FVec Ideal S8x768 .bf16) (P : Par) (hP : IsPar w b a2 P)
    (x : FVec Ideal S768x81 .f32) (X : Fin 768 → Fin 81 → ℝ) (hx : ∀ c p, x (ix2 c p) = (X c p : EReal)) (c : Fin 768) (p : Fin 81) :
    attn (F := Ideal) (⊤ : EReal) w b a2 x (ix2 c p) = (outR P X c p : EReal) := by
  have hoh := oneHot_real x X hx
  have hq := qPad_real (proj w b x) _ (proj_real w b x X hx P.Wq P.bq 0 (by norm_num) hP.wq hP.bq)
  have hk := kPart_real (proj w b x) _ (proj_real w b x X hx P.Wk P.bk 768 (by norm_num) hP.wk hP.bk)
  have hv := vPart_real (proj w b x) _ (proj_real w b x X hx P.Wv P.bv 1536 (by norm_num) hP.wv hP.bv)
  refine merge_real _ _ hv _ (nb X) hoh _ (scoresR P X) (fun h p => exps_real ?_) c p
  have key : ∀ (j : Fin 9) (o : ℕ) (ho : S768x1152.Slices ![0, o] S768x128), o = 128 * j.val →
      score a2 (qPad (proj w b x)) (gathered (kPart (proj w b x)) (oneHot (F := Ideal) (⊤ : EReal) (dist x))) o ho (ix2 h (wide p))
        = (scoresR P X h p j : EReal) := by
    rintro j o ho rfl
    exact score_real a2 P.a hP.a _ _ p _ _ _ ho (fun c => hq c p) (col j p).isLt
      (fun c => gathered_real _ _ hk _ (col j p) (nb X p j) (fun t => hoh t j p) c) h
  exact ⟨key 0 _ _ rfl, key 1 _ _ rfl, key 2 _ _ rfl, key 3 _ _ rfl, key 4 _ _ rfl, key 5 _ _ rfl, key 6 _ _ rfl, key 7 _ _ rfl, key 8 _ _ rfl⟩

end Cert.Attn

end
-- ==== Proof.Bn.lean ====
/-
  The batch normalisation of the kernel, over the extended reals with real arguments, is the real batch normalisation.
-/
module

public import proofs.«01_k».proof.Proof.Pick
public import proofs.«01_k».proof.Proof.Spec

@[expose] public section

set_option maxHeartbeats 1000000

noncomputable section

namespace Cert.Attn

open Cert.KernelIdeal Cert.KernelIdeal.Gen Cert.Reals Cert.Spec
open Idealize.ShloMosaic Idealize.SL.Sem

/-- A sample's channel sums. -/
theorem stats_sum (o : FVec Ideal S768x81 .f32) (f : Fin 768 → Fin 81 → ℝ) (ho : ∀ c p, o (ix2 c p) = (f c p : EReal)) (c : Fin 768) :
    statsOf o (ix2 c 0) = ((∑ p, f c p : ℝ) : EReal) := by
  unfold statsOf
  pointwise
  simp only [ho, coe_sum]

/-- A sample's channel sums of squares. -/
theorem stats_sq (o : FVec Ideal S768x81 .f32) (f : Fin 768 → Fin 81 → ℝ) (ho : ∀ c p, o (ix2 c p) = (f c p : EReal)) (c : Fin 768) :
    statsOf o (ix2 c 1) = ((∑ p, f c p * f c p : ℝ) : EReal) := by
  unfold statsOf
  pointwise
  simp only [ho, ← EReal.coe_mul, coe_sum]

/-- The totals over the samples. -/
theorem totals_real (st : FVec Ideal S64x768x2 .f32) (f : Fin 64 → ℝ) (c : Fin 768) (k : Fin 2) (hs : ∀ n, st (ix3 n c k) = (f n : EReal)) :
    totals st (ix2 c k) = ((∑ n, f n : ℝ) : EReal) := by
  unfold totals
  pointwise
  simp only [hs, coe_sum]

section
variable (st : FVec Ideal S64x768x2 .f32) (g b : FVec Ideal S768x1 .f32) (O : Fin 768 → Fin 64 → Fin 81 → ℝ) (G B : Fin 768 → ℝ)
  (h0 : ∀ c n, st (ix3 n c 0) = ((∑ p, O c n p : ℝ) : EReal)) (h1 : ∀ c n, st (ix3 n c 1) = ((∑ p, O c n p * O c n p : ℝ) : EReal))
  (hg : ∀ c, g (ix2 c 0) = (G c : EReal)) (hb : ∀ c, b (ix2 c 0) = (B c : EReal))
include h0

/-- A channel's mean. -/
theorem mean_real (c : Fin 768) : meanOf (totals st) (ix2 c 0) = (meanR (O c) : EReal) := by
  unfold meanOf
  pointwise
  rw [totals_real st (fun n => ∑ p, O c n p) c 0 (h0 c), ofBits_count, coe_div _ (by norm_num)]
  rfl

include h1 hg

/-- A channel's scale. -/
theorem scale_real (c : Fin 768) : scaleOf (totals st) g (ix2 c 0) = ((G c * (√(varR (O c) + small))⁻¹ : ℝ) : EReal) := by
  unfold scaleOf msqOf
  pointwise
  have hp : 0 < varR (O c) + small := add_pos_of_nonneg_of_pos (varR_nonneg _) small_pos
  rw [totals_real st (fun n => ∑ p, O c n p * O c n p) c 1 (h1 c), ofBits_count, coe_div _ (by norm_num), mean_real st O h0 c, ofBits_small,
    ← EReal.coe_mul, ← EReal.coe_sub, ← varR_eq, ← EReal.coe_add, coe_rsqrt hp, hg, ← EReal.coe_mul]

include hb

/-- The first column of the scales and shifts. -/
theorem ss_scale (c : Fin 768) : scaleShift st g b (ix2 c 0) = ((G c * (√(varR (O c) + small))⁻¹ : ℝ) : EReal) := by
  unfold scaleShift
  pointwise
  exact scale_real st g O G h0 h1 hg c

/-- The second column of the scales and shifts. -/
theorem ss_shift (c : Fin 768) : scaleShift st g b (ix2 c 1) = ((B c - meanR (O c) * (G c * (√(varR (O c) + small))⁻¹) : ℝ) : EReal) := by
  unfold scaleShift
  pointwise
  rw [hb, mean_real st O h0 c, scale_real st g O G h0 h1 hg c, ← EReal.coe_mul, ← EReal.coe_sub]

end

/-- The normalised element. -/
theorem bnOut_real (o x : FVec Ideal S768x81 .f32) (sc sh : FVec Ideal S768x1 .f32) (O : Fin 64 → Fin 81 → ℝ) (g b u v : ℝ) (c : Fin 768) (p : Fin 81)
    (ho : o (ix2 c p) = (u : EReal)) (hx : x (ix2 c p) = (v : EReal))
    (hsc : sc (ix2 c 0) = ((g * (√(varR O + small))⁻¹ : ℝ) : EReal))
    (hsh : sh (ix2 c 0) = ((b - meanR O * (g * (√(varR O + small))⁻¹) : ℝ) : EReal)) :
    bnOut o x sc sh (ix2 c p) = (resR O g b u v : EReal) := by
  unfold bnOut
  pointwise
  rw [ho, hx, hsc, hsh, ← EReal.coe_mul, ← EReal.coe_add, ← EReal.coe_add, ← EReal.coe_zero, coe_max, resR_scale]

end Cert.Attn

end
-- ==== Proof.Blk.lean ====
/-
  What the two bodies leave in their blocks, over the extended reals with real arguments.
-/
module

public import proofs.«01_k».proof.Proof.Att
public import proofs.«01_k».proof.Proof.Bn
public import proofs.«01_k».proof.Proof.Reg1I
public import Idealize.ShloMosaic.Lib.Pipeline.ValueKit

@[expose] public section

set_option maxHeartbeats 1000000
set_option maxRecDepth 16384

noncomputable section

namespace Cert.KernelIdeal.Body

open Cert.KernelIdeal Cert.KernelIdeal.Gen Cert.Attn Cert.Spec
open Idealize.ShloMosaic Idealize.SL.Sem

/-- The named constant stands for the top. -/
theorem big_top : (big : Ideal .f32) = (⊤ : EReal) := by
  unfold big
  show (κ "big").getD _ = _
  rfl

/-- The whole of the stacked weights is the stacked weights. -/
theorem ldW (x : FVec Ideal S2304x768 .bf16) : shapeCast S2304x768 (View.ld (Val := Elt Ideal) (e' := .bf16) x rW) shapeCasts_S2304x768_S2304x768 = x :=
  (shapeCast_self (s := S2304x768) _ _).trans (View.ld_unit_lit _ _ (by decide))
/-- The whole of the stacked biases is the stacked biases. -/
theorem ldB (x : FVec Ideal S2304x1 .f32) : shapeCast S2304x1 (View.ld (Val := Elt Ideal) (e' := .f32) x rB) shapeCasts_S2304x1_S2304x1 = x :=
  (shapeCast_self (s := S2304x1) _ _).trans (View.ld_unit_lit _ _ (by decide))
/-- The whole of the score matrix is the score matrix. -/
theorem ldA (x : FVec Ideal S8x768 .bf16) : shapeCast S8x768 (View.ld (Val := Elt Ideal) (e' := .bf16) x rA) shapeCasts_S8x768_S8x768 = x :=
  (shapeCast_self (s := S8x768) _ _).trans (View.ld_unit_lit _ _ (by decide))
/-- The whole of all samples' channel sums is those. -/
theorem ldT (x : FVec Ideal S64x768x2 .f32) : shapeCast S64x768x2 (View.ld (Val := Elt Ideal) (e' := .f32) x rS) shapeCasts_S64x768x2_S64x768x2 = x :=
  (shapeCast_self (s := S64x768x2) _ _).trans (View.ld_unit_lit _ _ (by decide))
/-- The whole of a channel column is the column. -/
theorem ldG (x : FVec Ideal S768x1 .f32) : shapeCast S768x1 (View.ld (Val := Elt Ideal) (e' := .f32) x rG) shapeCasts_S768x1_S768x1 = x :=
  (shapeCast_self (s := S768x1) _ _).trans (View.ld_unit_lit _ _ (by decide))
/-- A sample without its unit axis, at an element. -/
theorem sliceAt (v : FVec Ideal S1x768x81 .f32) (c : Fin 768) (p : Fin 81) :
    shapeCast S768x81 v shapeCasts_S1x768x81_S768x81 (ix2 c p) = v (ix3 0 c p) := by
  pointwise
/-- A sample's slot of a block, without its unit axis, at an element. -/
theorem ldS (x : FVec Ideal S8x768x81 .f32) (s : Fin 8) (h) (c : Fin 768) (p : Fin 81) :
    shapeCast S768x81 (View.ld (Val := Elt Ideal) (e' := .f32) x (slot ![s.val, 0, 0] h)) shapeCasts_S1x768x81_S768x81 (ix2 c p) = x (ix3 s c p) := by
  refine (sliceAt _ c p).trans ?_
  refine View.ld_unit_apply_of _ _ _ _ _ _ fun a => ?_
  match a with
  | 0 => rfl
  | 1 => exact (Nat.zero_add _).symm
  | 2 => exact (Nat.zero_add _).symm
/-- An array under a unit axis, at an element. -/
theorem under (v : FVec Ideal S768x81 .f32) (x : S1x768x81.Idx) (c : Fin 768) (p : Fin 81) (h1 : c.val = (x 1).val) (h2 : p.val = (x 2).val) :
    shapeCast S1x768x81 v shapeCasts_S768x81_S1x768x81 x = v (ix2 c p) := by
  obtain rfl : c = x 1 := Fin.ext h1
  obtain rfl : p = x 2 := Fin.ext h2
  rw [eq_ix3 x]
  pointwise
/-- Channel sums under a unit axis, at an element. -/
theorem under2 (v : FVec Ideal S768x2 .f32) (x : S1x768x2.Idx) (c : Fin 768) (k : Fin 2) (h1 : c.val = (x 1).val) (h2 : k.val = (x 2).val) :
    shapeCast S1x768x2 v shapeCasts_S768x2_S1x768x2 x = v (ix2 c k) := by
  obtain rfl : c = x 1 := Fin.ext h1
  obtain rfl : k = x 2 := Fin.ext h2
  rw [eq_ix3 x]
  pointwise

section
variable (x0 : FVec Ideal S8x768x81 .f32) (x1 : FVec Ideal S2304x768 .bf16) (x2 : FVec Ideal S2304x1 .f32) (x3 : FVec Ideal S8x768 .bf16)
    (P : Par) (hP : IsPar x1 x2 x3 P) (X : Fin 8 → Fin 768 → Fin 81 → ℝ) (hx : ∀ s c p, x0 (ix3 s c p) = (X s c p : EReal))
include hP hx

/-- The attention of the sample in a slot. -/
theorem attnAt_real (s : Fin 8) (h) (c : Fin 768) (p : Fin 81) :
    attnAt (F := Ideal) x0 x1 x2 x3 ![s.val, 0, 0] h (ix2 c p) = (outR P (X s) c p : EReal) := by
  unfold attnAt
  rw [big_top, ldW, ldB, ldA]
  exact attn_real _ _ _ P hP _ (X s) (fun c p => (ldS x0 s h c p).trans (hx s c p)) c p

/-- The attention call's block of attentions. -/
theorem out0_4_real (s : Fin 8) (c : Fin 768) (p : Fin 81) : out0_4 (F := Ideal) x0 x1 x2 x3 (ix3 s c p) = (outR P (X s) c p : EReal) := by
  have key : ∀ (t : Fin 8) (h) (x : S1x768x81.Idx), s.val = t.val + (x 0).val → (x 0).val < 1 → c.val = (x 1).val → p.val = (x 2).val →
      shapeCast S1x768x81 (attnAt (F := Ideal) x0 x1 x2 x3 ![t.val, 0, 0] h) shapeCasts_S768x81_S1x768x81 x = (outR P (X s) c p : EReal) := by
    intro t h x e0 e e1 e2
    obtain rfl : s = t := Fin.ext (by omega)
    exact (under _ x c p e1 e2).trans (attnAt_real x0 x1 x2 x3 P hP X hx s h c p)
  unfold out0_4 pieces
  canon_tiles x e
  · exact key 7 _ x e0 x0_lt e1 e2
  · exact key 6 _ x e0 x0_lt e1 e2
  · exact key 5 _ x e0 x0_lt e1 e2
  · exact key 4 _ x e0 x0_lt e1 e2
  · exact key 3 _ x e0 x0_lt e1 e2
  · exact key 2 _ x e0 x0_lt e1 e2
  · exact key 1 _ x e0 x0_lt e1 e2
  · exact key 0 _ x (e0.trans (Nat.zero_add _).symm) x0_lt e1 e2

/-- The attention call's block of channel sums, what they are. -/
def sumsR (P : Par) (X : Fin 768 → Fin 81 → ℝ) (c : Fin 768) (k : Fin 2) : ℝ :=
  if k = 0 then ∑ p, outR P X c p else ∑ p, outR P X c p * outR P X c p

/-- The attention call's block of channel sums. -/
theorem out0_5_real (s : Fin 8) (c : Fin 768) (k : Fin 2) : out0_5 (F := Ideal) x0 x1 x2 x3 (ix3 s c k) = (sumsR P (X s) c k : EReal) := by
  have key : ∀ (t : Fin 8) (h) (x : S1x768x2.Idx), s.val = t.val + (x 0).val → (x 0).val < 1 → c.val = (x 1).val → k.val = (x 2).val →
      shapeCast S1x768x2 (statsOf (attnAt (F := Ideal) x0 x1 x2 x3 ![t.val, 0, 0] h)) shapeCasts_S768x2_S1x768x2 x = (sumsR P (X s) c k : EReal) := by
    intro t h x e0 e e1 e2
    obtain rfl : s = t := Fin.ext (by omega)
    refine (under2 _ x c k e1 e2).trans ?_
    match k with
    | 0 => exact stats_sum _ (outR P (X s)) (attnAt_real x0 x1 x2 x3 P hP X hx s h) c
    | 1 => exact stats_sq _ (outR P (X s)) (attnAt_real x0 x1 x2 x3 P hP X hx s h) c
  unfold out0_5 pieces2
  canon_tiles x e
  · exact key 7 _ x e0 x0_lt e1 e2
  · exact key 6 _ x e0 x0_lt e1 e2
  · exact key 5 _ x e0 x0_lt e1 e2
  · exact key 4 _ x e0 x0_lt e1 e2
  · exact key 3 _ x e0 x0_lt e1 e2
  · exact key 2 _ x e0 x0_lt e1 e2
  · exact key 1 _ x e0 x0_lt e1 e2
  · exact key 0 _ x (e0.trans (Nat.zero_add _).symm) x0_lt e1 e2
end

section
variable (x0 x2 : FVec Ideal S8x768x81 .f32) (st : FVec Ideal S64x768x2 .f32) (g b : FVec Ideal S768x1 .f32) (O : Fin 768 → Fin 64 → Fin 81 → ℝ)
  (G B : Fin 768 → ℝ) (U X : Fin 8 → Fin 768 → Fin 81 → ℝ) (hu : ∀ s c p, x0 (ix3 s c p) = (U s c p : EReal)) (hx : ∀ s c p, x2 (ix3 s c p) = (X s c p : EReal))
  (h0 : ∀ c n, st (ix3 n c 0) = ((∑ p, O c n p : ℝ) : EReal)) (h1 : ∀ c n, st (ix3 n c 1) = ((∑ p, O c n p * O c n p : ℝ) : EReal))
  (hg : ∀ c, g (ix2 c 0) = (G c : EReal)) (hb : ∀ c, b (ix2 c 0) = (B c : EReal))

/-- What the scratch holds. -/
theorem scratch_eq (j : S768x2.Idx) : scratchOf (F := Ideal) st g b j = scaleShift st g b j := by
  unfold scratchOf
  rw [ldT, ldG, ldG]
  exact congrFun ((View.canon_cons_unit_lit (S := S768x2) _ _ _ (by decide)).trans (shapeCast_self (s := S768x2) _ _)) j

include hu hx h0 h1 hg hb

/-- The result of the sample in a slot. -/
theorem bnAt_real (s : Fin 8) (h) (c : Fin 768) (p : Fin 81) (x : S1x768x81.Idx) (e1 : c.val = (x 1).val) (e2 : p.val = (x 2).val) :
    bnAt (F := Ideal) x0 x2 (scratchOf st g b) ![s.val, 0, 0] h x = (resR (O c) (G c) (B c) (U s c p) (X s c p) : EReal) := by
  unfold bnAt
  refine (under _ x c p e1 e2).trans (bnOut_real _ _ _ _ (O c) (G c) (B c) (U s c p) (X s c p) c p ?_ ?_ ?_ ?_)
  · exact (ldS x0 s h c p).trans (hu s c p)
  · exact (ldS x2 s h c p).trans (hx s c p)
  · refine (View.ld_unit_apply_of _ _ _ _ _ (ix2 c 0) fun a => ?_).trans ((scratch_eq st g b _).trans (ss_scale st g b O G B h0 h1 hg hb c))
    match a with
    | 0 => exact (Nat.zero_add _).symm
    | 1 => rfl
  · refine (View.ld_unit_apply_of _ _ _ _ _ (ix2 c 1) fun a => ?_).trans ((scratch_eq st g b _).trans (ss_shift st g b O G B h0 h1 hg hb c))
    match a with
    | 0 => exact (Nat.zero_add _).symm
    | 1 => rfl

/-- The normalising call's block of results. -/
theorem out1_5_real (s : Fin 8) (c : Fin 768) (p : Fin 81) :
    out1_5 (F := Ideal) x0 x2 (scratchOf st g b) (ix3 s c p) = (resR (O c) (G c) (B c) (U s c p) (X s c p) : EReal) := by
  have key : ∀ (t : Fin 8) (h) (x : S1x768x81.Idx), s.val = t.val + (x 0).val → (x 0).val < 1 → c.val = (x 1).val → p.val = (x 2).val →
      bnAt (F := Ideal) x0 x2 (scratchOf st g b) ![t.val, 0, 0] h x = (resR (O c) (G c) (B c) (U s c p) (X s c p) : EReal) := by
    intro t h x e0 e e1 e2
    obtain rfl : s = t := Fin.ext (by omega)
    exact bnAt_real x0 x2 st g b O G B U X hu hx h0 h1 hg hb s h c p x e1 e2
  unfold out1_5 pieces
  canon_tiles x e
  · exact key 7 _ x e0 x0_lt e1 e2
  · exact key 6 _ x e0 x0_lt e1 e2
  · exact key 5 _ x e0 x0_lt e1 e2
  · exact key 4 _ x e0 x0_lt e1 e2
  · exact key 3 _ x e0 x0_lt e1 e2
  · exact key 2 _ x e0 x0_lt e1 e2
  · exact key 1 _ x e0 x0_lt e1 e2
  · exact key 0 _ x (e0.trans (Nat.zero_add _).symm) x0_lt e1 e2
end

end Cert.KernelIdeal.Body

end
-- ==== Proof.KVal.lean ====
/-
  What the kernel's run leaves in its result, over the extended reals with real arguments.
-/
module

public import proofs.«01_k».proof.Proof.Blk
public import proofs.«01_k».proof.Proof.RunI
public import Idealize.ShloMosaic.Lib.Pipeline.ValueKit

@[expose] public section

set_option maxHeartbeats 1000000
set_option maxRecDepth 16384

noncomputable section

namespace Cert.KernelIdeal.Body

open Cert.KernelIdeal Cert.KernelIdeal.Gen Cert.Attn Cert.Spec Cert.Reals
open Idealize.ShloMosaic Idealize.ShloMosaic.TcCoe Idealize.SL.Sem

variable (m : (ℓ : Loc nD τ sig) → Buf (Elt Ideal) ℓ) (c : Dev nD)

/-- The arguments. -/
abbrev arg0 : FVec Ideal S64x768x9x9 .f32 := m ((c : Thread nD τ).loc main_arg0)
@[inherit_doc arg0] abbrev arg1 : FVec Ideal S768x768 .f32 := m ((c : Thread nD τ).loc main_arg1)
@[inherit_doc arg0] abbrev arg2 : FVec Ideal S768 .f32 := m ((c : Thread nD τ).loc main_arg2)
@[inherit_doc arg0] abbrev arg3 : FVec Ideal S768x768 .f32 := m ((c : Thread nD τ).loc main_arg3)
@[inherit_doc arg0] abbrev arg4 : FVec Ideal S768 .f32 := m ((c : Thread nD τ).loc main_arg4)
@[inherit_doc arg0] abbrev arg5 : FVec Ideal S768x768 .f32 := m ((c : Thread nD τ).loc main_arg5)
@[inherit_doc arg0] abbrev arg6 : FVec Ideal S768 .f32 := m ((c : Thread nD τ).loc main_arg6)
@[inherit_doc arg0] abbrev arg7 : FVec Ideal S4x192 .f32 := m ((c : Thread nD τ).loc main_arg7)
@[inherit_doc arg0] abbrev arg8 : FVec Ideal S768 .f32 := m ((c : Thread nD τ).loc main_arg8)
@[inherit_doc arg0] abbrev arg9 : FVec Ideal S768 .f32 := m ((c : Thread nD τ).loc main_arg9)

/-- The arguments are these reals. -/
structure IsReal (X : Fin 64 → Fin 768 → Fin 81 → ℝ) (P : Par) (G B : Fin 768 → ℝ) : Prop where
  x : ∀ n k p, arg0 m c (ix4 n k ⟨p.val / 9, by omega⟩ ⟨p.val % 9, by omega⟩) = (X n k p : EReal)
  wq : ∀ k l, arg1 m c (ix2 k l) = (P.Wq k l : EReal)
  bq : ∀ k, arg2 m c (ix1 k) = (P.bq k : EReal)
  wk : ∀ k l, arg3 m c (ix2 k l) = (P.Wk k l : EReal)
  bk : ∀ k, arg4 m c (ix1 k) = (P.bk k : EReal)
  wv : ∀ k l, arg5 m c (ix2 k l) = (P.Wv k l : EReal)
  bv : ∀ k, arg6 m c (ix1 k) = (P.bv k : EReal)
  a : ∀ h d, arg7 m c (ix2 h d) = (P.a h d : EReal)
  g : ∀ k, arg8 m c (ix1 k) = (G k : EReal)
  b : ∀ k, arg9 m c (ix1 k) = (B k : EReal)

/-! ## The first host stretch -/

/-- The samples, their tokens on one axis. -/
theorem v0_eq : (U1 m c (Proc.devRef .tc main_v0) : FVec Ideal S64x768x81 .f32) = shapeCast S64x768x81 (arg0 m c) shapeCasts_S64x768x9x9_S64x768x81 := by
  unfold U1; after_results; rfl
/-- The stacked weights. -/
theorem v2_eq : (U1 m c (Proc.devRef .tc main_v2) : FVec Ideal S2304x768 .bf16)
    = truncf .bf16 (concatenate S2304x768 0 [⟨S768x768, arg1 m c⟩, ⟨S768x768, arg3 m c⟩, ⟨S768x768, arg5 m c⟩]
        concatenates_S768x768_S768x768_S768x768_S2304x768_d0 : FVec Ideal S2304x768 .f32) bitsLt_bf16_f32 := by
  unfold U1; after_results; rfl
/-- The stacked biases. -/
theorem v4_eq : (U1 m c (Proc.devRef .tc main_v4) : FVec Ideal S2304x1 .f32)
    = broadcastInDim S2304x1 ![0] bcast_S2304_S2304x1_0 (concatenate S2304 0 [⟨S768, arg2 m c⟩, ⟨S768, arg4 m c⟩, ⟨S768, arg6 m c⟩]
        concatenates_S768_S768_S768_S2304_d0 : FVec Ideal S2304 .f32) := by
  unfold U1; after_results; rfl
/-- Each head's weights, in its own channels' places. -/
def amat (a : FVec Ideal S4x192 .f32) : FVec Ideal S4x768 .f32 :=
  shapeCast S4x768 (mulf (broadcastInDim S4x4x192 ![0, 1, 2] bcast_S4x4x1_S4x4x192_0_1_2 (broadcastInDim S4x4x1 ![0, 1] bcast_S4x4_S4x4x1_0_1
      (uitofp .f32 (cmpi .eq (addi (iotaInDim S4x4 32 0) (broadcastInDim S4x4 ![] bcast_S_S4x4 (constantI S_ 32 0#32))) (iotaInDim S4x4 32 1)) : FVec Ideal S4x4 .f32)))
    (broadcastInDim S4x4x192 ![0, 1, 2] bcast_S1x4x192_S4x4x192_0_1_2 (broadcastInDim S1x4x192 ![1, 2] bcast_S4x192_S1x4x192_1_2 a))) shapeCasts_S4x4x192_S4x768
/-- The score matrix: high parts over low parts. -/
theorem v21_eq : (U1 m c (Proc.devRef .tc main_v21) : FVec Ideal S8x768 .bf16)
    = concatenate S8x768 0 [⟨S4x768, truncf .bf16 (amat (arg7 m c)) bitsLt_bf16_f32⟩,
        ⟨S4x768, truncf .bf16 (subf (amat (arg7 m c)) (extf .f32 (truncf .bf16 (amat (arg7 m c)) bitsLt_bf16_f32 : FVec Ideal S4x768 .bf16) bitsLt_bf16_f32)) bitsLt_bf16_f32⟩]
        concatenates_S4x768_S4x768_S8x768_d0 := by
  unfold U1; after_results; rfl

section
variable {m c} {X : Fin 64 → Fin 768 → Fin 81 → ℝ} {P : Par} {G B : Fin 768 → ℝ} (h : IsReal m c X P G B)
include h

/-- The samples, their tokens on one axis, at an element. -/
theorem v0_real (n : Fin 64) (k : Fin 768) (p : Fin 81) : (U1 m c (Proc.devRef .tc main_v0) : FVec Ideal S64x768x81 .f32) (ix3 n k p) = (X n k p : EReal) := by
  rw [v0_eq, ← h.x n k p]
  pointwise

/-- Each head's weights, in its own channels' places, at an element. -/
theorem amat_real (i j : Fin 4) (d : Fin 192) : amat (arg7 m c) (ix2 i (chan j d)) = ((if i = j then P.a j d else 0 : ℝ) : EReal) := by
  unfold amat
  pointwise
  have e1 : (chan j d).val / 192 = j.val := by simp only [chan]; omega
  have e2 : (chan j d).val % 192 = d.val := by simp only [chan]; omega
  have e3 : IntOp.addi (BitVec.ofNat 32 i.val) 0#32 = BitVec.ofNat 32 i.val := by unfold IntOp.addi; simp
  have e4 : (⟨(chan j d).val / 192, by omega⟩ : Fin 4) = j := Fin.ext e1
  have e5 : (⟨(chan j d).val % 192, by omega⟩ : Fin 192) = d := Fin.ext e2
  rw [e4, e5, h.a j d, e1, e3]
  have e6 : (FloatOps.uitofp .f32 (IntOp.cmpi .eq (BitVec.ofNat 32 i.val) (BitVec.ofNat 32 j.val)) : Ideal .f32) = ((if i = j then 1 else 0 : ℝ) : EReal) := by
    rw [cmpi_small (by omega) (by omega)]
    by_cases hij : i = j
    · subst hij; rw [decide_eq_true rfl, if_pos rfl]; simp [FloatOps.uitofp]
    · rw [decide_eq_false (fun e => hij (Fin.ext e)), if_neg hij]; simp [FloatOps.uitofp]
  rw [e6, ← EReal.coe_mul]
  split <;> simp

/-- What the attention call is given. -/
theorem isPar : IsPar (U1 m c (Proc.devRef .tc main_v2)) (U1 m c (Proc.devRef .tc main_v4)) (U1 m c (Proc.devRef .tc main_v21)) P := by
  rw [v2_eq, v4_eq, v21_eq]
  refine ⟨fun k l => ?_, fun k l => ?_, fun k l => ?_, fun k => ?_, fun k => ?_, fun k => ?_, ⟨fun i j d => ?_, fun i k => ?_⟩⟩
  · rw [← h.wq k l]; pointwise
  · rw [← h.wk k l]; pointwise
  · rw [← h.wv k l]; pointwise
    rw [dif_neg (by omega), dif_neg (by omega)]
    exact congrArg (arg5 m c) (by congr 1; exact Fin.ext (by show 1536 + k.val - 768 - 768 = k.val; omega))
  · rw [← h.bq k]; pointwise
  · rw [← h.bk k]; pointwise
  · rw [← h.bv k]; pointwise
    rw [dif_neg (by omega), dif_neg (by omega)]
    exact congrArg (arg6 m c) (by congr 1; exact Fin.ext (by show 1536 + k.val - 768 - 768 = k.val; omega))
  · rw [← amat_real h i j d]; pointwise
  · have e : k = chan ⟨k.val / 192, by omega⟩ ⟨k.val % 192, by omega⟩ := Fin.ext (by simp only [chan]; omega)
    pointwise
    rw [e, amat_real h, ← EReal.coe_sub, sub_self, EReal.coe_zero]

end

/-! ## The attention call -/

/-- The windows' places in their arrays. -/
theorem idx0 : ∀ t : Fin cfg0.N, win0_0.index t = ![t.val, 0, 0] ∧ win0_1.index t = ![0, 0] ∧ win0_2.index t = ![0, 0] ∧ win0_3.index t = ![0, 0]
    ∧ win0_4.index t = ![t.val, 0, 0] ∧ win0_5.index t = ![t.val, 0, 0] :=
  (by decide +kernel : ∀ t : Fin grid0.N, _)
/-- The windows' places in their arrays. -/
theorem idx1 : ∀ t : Fin cfg1.N, win1_0.index t = ![t.val, 0, 0] ∧ win1_1.index t = ![0, 0, 0] ∧ win1_2.index t = ![t.val, 0, 0] ∧ win1_3.index t = ![0, 0]
    ∧ win1_4.index t = ![0, 0] ∧ win1_5.index t = ![t.val, 0, 0] :=
  (by decide +kernel : ∀ t : Fin grid1.N, _)

section
variable (V : (c : Dev nD) → (b : Ref sig .tc) → Buf (Elt Ideal) ((c : Thread nD τ).loc b))

/-- The attention call's weights block is the stacked weights. -/
theorem blk0_1 (t : Fin cfg0.N) : (blk0 V c 1 t : FVec Ideal S2304x768 .bf16) = V c main_v2 := by
  blk_ext! [blk0, idx0 t]
/-- Its biases block is the stacked biases. -/
theorem blk0_2 (t : Fin cfg0.N) : (blk0 V c 2 t : FVec Ideal S2304x1 .f32) = V c main_v4 := by
  blk_ext! [blk0, idx0 t]
/-- Its score block is the score matrix. -/
theorem blk0_3 (t : Fin cfg0.N) : (blk0 V c 3 t : FVec Ideal S8x768 .bf16) = V c main_v21 := by
  blk_ext! [blk0, idx0 t]
/-- Its samples block is eight samples. -/
theorem blk0_0 (t : Fin cfg0.N) (s : Fin 8) (k : Fin 768) (p : Fin 81) :
    (blk0 V c 0 t : FVec Ideal S8x768x81 .f32) (ix3 s k p) = (V c main_v0 : FVec Ideal S64x768x81 .f32) (ix3 ⟨t.val * 8 + s.val, by have h8 : t.val < 8 := t.isLt; omega⟩ k p) := by
  blk_ext! [blk0, idx0 t]

/-- The attentions after the call. -/
theorem arr0_4 (P : Par) (X : Fin 64 → Fin 768 → Fin 81 → ℝ) (hP : IsPar (V c main_v2) (V c main_v4) (V c main_v21) P)
    (hx : ∀ n k p, (V c main_v0 : FVec Ideal S64x768x81 .f32) (ix3 n k p) = (X n k p : EReal)) :
    ((dat0 V c).arrAt 4 cfg0.N : FVec Ideal S64x768x81 .f32) = fun i => (outR P (X (i 0)) (i 1) (i 2) : EReal) := by
  refine (dat0 V c).arrAt_eq_of_covers 4 _ (by decide +kernel) fun t hf y => ?_
  blk_simp
  rw [after0_4, blk0_1, blk0_2, blk0_3]
  have h8 : t.val < 8 := t.isLt
  have e := out0_4_real (blk0 V c 0 t) _ _ _ P hP (fun s k p => X ⟨t.val * 8 + s.val, by omega⟩ k p) (fun s k p => (blk0_0 c V t s k p).trans (hx _ _ _)) (y 0) (y 1) (y 2)
  refine (congrArg _ (eq_ix3 (y : S8x768x81.Idx))).trans (e.trans ?_)
  have e0 : (win0_4.blk t).view.emb y = ix3 ⟨t.val * 8 + (y 0).val, by have h9 : (y 0).val < 8 := (y 0).isLt; omega⟩ (y 1) (y 2) := by
    blk_ext [idx0 t]
  rw [e0]
  rfl

/-- The channel sums after the call. -/
theorem arr0_5 (P : Par) (X : Fin 64 → Fin 768 → Fin 81 → ℝ) (hP : IsPar (V c main_v2) (V c main_v4) (V c main_v21) P)
    (hx : ∀ n k p, (V c main_v0 : FVec Ideal S64x768x81 .f32) (ix3 n k p) = (X n k p : EReal)) :
    ((dat0 V c).arrAt 5 cfg0.N : FVec Ideal S64x768x2 .f32) = fun i => (sumsR P (X (i 0)) (i 1) (i 2) : EReal) := by
  refine (dat0 V c).arrAt_eq_of_covers 5 _ (by decide +kernel) fun t hf y => ?_
  blk_simp
  rw [after0_5, blk0_1, blk0_2, blk0_3]
  have h8 : t.val < 8 := t.isLt
  have e := out0_5_real (blk0 V c 0 t) _ _ _ P hP (fun s k p => X ⟨t.val * 8 + s.val, by omega⟩ k p) (fun s k p => (blk0_0 c V t s k p).trans (hx _ _ _)) (y 0) (y 1) (y 2)
  refine (congrArg _ (eq_ix3 (y : S8x768x2.Idx))).trans (e.trans ?_)
  have e0 : (win0_5.blk t).view.emb y = ix3 ⟨t.val * 8 + (y 0).val, by have h9 : (y 0).val < 8 := (y 0).isLt; omega⟩ (y 1) (y 2) := by
    blk_ext [idx0 t]
  rw [e0]
  rfl

/-! ## The normalising call -/

/-- Its channel sums block is all channel sums. -/
theorem blk1_1 (t : Fin cfg1.N) : (blk1 V c 1 t : FVec Ideal S64x768x2 .f32) = V c main_v22_1 := by
  blk_ext! [blk1, idx1 t]
/-- Its `gamma` block is the column. -/
theorem blk1_3 (t : Fin cfg1.N) : (blk1 V c 3 t : FVec Ideal S768x1 .f32) = V c main_v23 := by
  blk_ext! [blk1, idx1 t]
/-- Its `beta` block is the column. -/
theorem blk1_4 (t : Fin cfg1.N) : (blk1 V c 4 t : FVec Ideal S768x1 .f32) = V c main_v24 := by
  blk_ext! [blk1, idx1 t]
/-- Its attentions block is eight samples. -/
theorem blk1_0 (t : Fin cfg1.N) (s : Fin 8) (k : Fin 768) (p : Fin 81) :
    (blk1 V c 0 t : FVec Ideal S8x768x81 .f32) (ix3 s k p) = (V c main_v22_0 : FVec Ideal S64x768x81 .f32) (ix3 ⟨t.val * 8 + s.val, by have h8 : t.val < 8 := t.isLt; omega⟩ k p) := by
  blk_ext! [blk1, idx1 t]
/-- Its samples block is eight samples. -/
theorem blk1_2 (t : Fin cfg1.N) (s : Fin 8) (k : Fin 768) (p : Fin 81) :
    (blk1 V c 2 t : FVec Ideal S8x768x81 .f32) (ix3 s k p) = (V c main_v0 : FVec Ideal S64x768x81 .f32) (ix3 ⟨t.val * 8 + s.val, by have h8 : t.val < 8 := t.isLt; omega⟩ k p) := by
  blk_ext! [blk1, idx1 t]

/-- The results after the call. -/
theorem arr1_5 (O : Fin 768 → Fin 64 → Fin 81 → ℝ) (X : Fin 64 → Fin 768 → Fin 81 → ℝ) (G B : Fin 768 → ℝ)
    (hu : ∀ n k p, (V c main_v22_0 : FVec Ideal S64x768x81 .f32) (ix3 n k p) = (O k n p : EReal))
    (h0 : ∀ k n, (V c main_v22_1 : FVec Ideal S64x768x2 .f32) (ix3 n k 0) = ((∑ p, O k n p : ℝ) : EReal))
    (h1 : ∀ k n, (V c main_v22_1 : FVec Ideal S64x768x2 .f32) (ix3 n k 1) = ((∑ p, O k n p * O k n p : ℝ) : EReal))
    (hx : ∀ n k p, (V c main_v0 : FVec Ideal S64x768x81 .f32) (ix3 n k p) = (X n k p : EReal))
    (hg : ∀ k, (V c main_v23 : FVec Ideal S768x1 .f32) (ix2 k 0) = (G k : EReal)) (hb : ∀ k, (V c main_v24 : FVec Ideal S768x1 .f32) (ix2 k 0) = (B k : EReal)) :
    ((dat1 V c).arrAt 5 cfg1.N : FVec Ideal S64x768x81 .f32)
      = fun i => (resR (O (i 1)) (G (i 1)) (B (i 1)) (O (i 1) (i 0) (i 2)) (X (i 0) (i 1) (i 2)) : EReal) := by
  refine (dat1 V c).arrAt_eq_of_covers 5 _ (by decide +kernel) fun t hf y => ?_
  blk_simp
  rw [after1_5]
  unfold kept
  rw [blk1_1, blk1_3, blk1_4]
  have h8 : t.val < 8 := t.isLt
  have e := out1_5_real (blk1 V c 0 t) (blk1 V c 2 t) (V c main_v22_1) (V c main_v23) (V c main_v24) O G B (fun s k p => O k ⟨t.val * 8 + s.val, by omega⟩ p)
    (fun s k p => X ⟨t.val * 8 + s.val, by omega⟩ k p) (fun s k p => (blk1_0 c V t s k p).trans (hu _ _ _)) (fun s k p => (blk1_2 c V t s k p).trans (hx _ _ _))
    h0 h1 hg hb (y 0) (y 1) (y 2)
  refine (congrArg _ (eq_ix3 (y : S8x768x81.Idx))).trans (e.trans ?_)
  have e0 : (win1_5.blk t).view.emb y = ix3 ⟨t.val * 8 + (y 0).val, by have h9 : (y 0).val < 8 := (y 0).isLt; omega⟩ (y 1) (y 2) := by
    blk_ext [idx1 t]
  rw [e0]
  rfl
end

/-! ## The whole run -/

/-- An argument reaches the normalising call as launched. -/
theorem U2_args (a : Ref sig .tc) (ha : a ∈ args) : U2 m c (Proc.devRef .tc a) = m ((c : Thread nD τ).loc a) :=
  (U2_of m c a (args0 a ha)).trans (U1_of m c a (argsHost a ha).1)
/-- The `gamma` column. -/
theorem v23_eq : (U3 m c (Proc.devRef .tc main_v23) : FVec Ideal S768x1 .f32) = broadcastInDim S768x1 ![0] bcast_S768_S768x1_0 (arg8 m c) := by
  have e := U2_args m c main_arg8 (by decide)
  unfold U3; after_results; rw [e]
/-- The `beta` column. -/
theorem v24_eq : (U3 m c (Proc.devRef .tc main_v24) : FVec Ideal S768x1 .f32) = broadcastInDim S768x1 ![0] bcast_S768_S768x1_0 (arg9 m c) := by
  have e := U2_args m c main_arg9 (by decide)
  unfold U3; after_results; rw [e]
/-- The result is the normalising call's, tokens on two axes. -/
theorem v26_eq : (U5 m c (Proc.devRef .tc main_v26) : FVec Ideal S64x768x9x9 .f32)
    = shapeCast S64x768x9x9 (U4 m c (Proc.devRef .tc main_v25) : FVec Ideal S64x768x81 .f32) shapeCasts_S64x768x81_S64x768x9x9 := by
  unfold U5; after_results; rfl

section
variable {m c} {X : Fin 64 → Fin 768 → Fin 81 → ℝ} {P : Par} {G B : Fin 768 → ℝ} (h : IsReal m c X P G B)
include h

/-- The normalising call's results. -/
theorem v25_real : (U4 m c (Proc.devRef .tc main_v25) : FVec Ideal S64x768x81 .f32)
    = fun i => (resR (fun n p => outR P (X n) (i 1) p) (G (i 1)) (B (i 1)) (outR P (X (i 0)) (i 1) (i 2)) (X (i 0) (i 1) (i 2)) : EReal) := by
  have e4 : (U3 m c (Proc.devRef .tc main_v22_0) : FVec Ideal S64x768x81 .f32) = fun i => (outR P (X (i 0)) (i 1) (i 2) : EReal) :=
    (U3_of m c main_v22_0 (by decide)).trans ((U2_arr m c 4).trans (arr0_4 c (X1 m) P X (isPar h) (v0_real h)))
  have e5 : (U3 m c (Proc.devRef .tc main_v22_1) : FVec Ideal S64x768x2 .f32) = fun i => (sumsR P (X (i 0)) (i 1) (i 2) : EReal) :=
    (U3_of m c main_v22_1 (by decide)).trans ((U2_arr m c 5).trans (arr0_5 c (X1 m) P X (isPar h) (v0_real h)))
  have e0 : (U3 m c (Proc.devRef .tc main_v0) : FVec Ideal S64x768x81 .f32) = U1 m c (Proc.devRef .tc main_v0) :=
    (U3_of m c main_v0 (by decide)).trans (U2_of m c main_v0 (by decide +kernel))
  refine (U4_arr m c 5).trans (arr1_5 c (X3 m) (fun k n p => outR P (X n) k p) X G B ?_ ?_ ?_ ?_ ?_ ?_)
  · exact fun n k p => congrFun e4 (ix3 n k p)
  · exact fun k n => congrFun e5 (ix3 n k 0)
  · exact fun k n => congrFun e5 (ix3 n k 1)
  · exact fun n k p => (congrFun e0 _).trans (v0_real h n k p)
  · intro k
    refine (congrFun (v23_eq m c) _).trans ?_
    rw [← h.g k]; pointwise
  · intro k
    refine (congrFun (v24_eq m c) _).trans ?_
    rw [← h.b k]; pointwise

/-- The kernel's result at an element. -/
theorem result (n : Fin 64) (k : Fin 768) (y z : Fin 9) : (U5 m c (Proc.devRef .tc main_v26) : FVec Ideal S64x768x9x9 .f32) (ix4 n k y z)
    = (resR (fun n p => outR P (X n) k p) (G k) (B k) (outR P (X n) k ⟨y.val * 9 + z.val, by omega⟩) (X n k ⟨y.val * 9 + z.val, by omega⟩) : EReal) := by
  rw [v26_eq, v25_real h]
  pointwise
end

end Cert.KernelIdeal.Body

end
-- ==== Proof.RefVal.lean ====
/-
  The reference over the extended reals with real arguments: each of its named terms is the real attention's.
-/
module

public import proofs.«01_k».proof.Proof.Spec
public import proofs.«01_k».proof.Proof.Gen.ReferenceIdeal.Run
public import Idealize.ShloMosaic.Lib.Tactic.CleanTypes

@[expose] public section

set_option maxHeartbeats 1000000

noncomputable section

namespace Cert.Ref

open Cert.ReferenceIdeal Cert.ReferenceIdeal.Gen Cert.ReferenceIdeal.Value Cert.Near Cert.Reals Cert.Spec
open Idealize.ShloMosaic Idealize.SL.Sem

variable (V0 : Valuation τ sig (Elt Ideal))

/-- The arguments as arrays. -/
def A0 : FVec Ideal S64x768x9x9 .f32 := V0 (Proc.devRef .tc main_arg0)
def A1 : FVec Ideal S768x768 .f32 := V0 (Proc.devRef .tc main_arg1)
def A2 : FVec Ideal S768 .f32 := V0 (Proc.devRef .tc main_arg2)
def A3 : FVec Ideal S768x768 .f32 := V0 (Proc.devRef .tc main_arg3)
def A4 : FVec Ideal S768 .f32 := V0 (Proc.devRef .tc main_arg4)
def A5 : FVec Ideal S768x768 .f32 := V0 (Proc.devRef .tc main_arg5)
def A6 : FVec Ideal S768 .f32 := V0 (Proc.devRef .tc main_arg6)
def A7 : FVec Ideal S4x192 .f32 := V0 (Proc.devRef .tc main_arg7)
def A8 : FVec Ideal S768 .f32 := V0 (Proc.devRef .tc main_arg8)
def A9 : FVec Ideal S768 .f32 := V0 (Proc.devRef .tc main_arg9)

/-- The arguments are these reals. -/
structure IsReal (X : Fin 64 → Fin 768 → Fin 81 → ℝ) (P : Par) (G B : Fin 768 → ℝ) : Prop where
  x : ∀ n c p, A0 V0 (ix4 n c ⟨p.val / 9, by omega⟩ ⟨p.val % 9, by omega⟩) = (X n c p : EReal)
  wq : ∀ c k, A1 V0 (ix2 c k) = (P.Wq c k : EReal)
  bq : ∀ c, A2 V0 (ix1 c) = (P.bq c : EReal)
  wk : ∀ c k, A3 V0 (ix2 c k) = (P.Wk c k : EReal)
  bk : ∀ c, A4 V0 (ix1 c) = (P.bk c : EReal)
  wv : ∀ c k, A5 V0 (ix2 c k) = (P.Wv c k : EReal)
  bv : ∀ c, A6 V0 (ix1 c) = (P.bv c : EReal)
  a : ∀ h d, A7 V0 (ix2 h d) = (P.a h d : EReal)
  g : ∀ c, A8 V0 (ix1 c) = (G c : EReal)
  b : ∀ c, A9 V0 (ix1 c) = (B c : EReal)

variable {V0} {X : Fin 64 → Fin 768 → Fin 81 → ℝ} {P : Par} {G B : Fin 768 → ℝ}

/-- The tokens. -/
theorem tok (h : IsReal V0 X P G B) (n : Fin 64) (p : Fin 81) (c : Fin 768) :
    (res_main_v1 V0 : FVec Ideal S64x81x768 .f32) (ix3 n p c) = (X n c p : EReal) := by
  rw [← h.x]
  unfold res_main_v1
  pointwise
  rfl

/-- The squared lengths. -/
theorem sq (h : IsReal V0 X P G B) (n : Fin 64) (p : Fin 81) :
    (res_main_v3 V0 : FVec Ideal S64x81 .f32) (ix2 n p) = (gramR (X n) p p : EReal) := by
  unfold res_main_v3
  pointwise
  simp only [tok h, ← EReal.coe_mul, coe_sum]
  rfl

/-- The distances, negated. -/
theorem negDist (h : IsReal V0 X P G B) (n : Fin 64) (p r : Fin 81) :
    (res_main_v16 V0 : FVec Ideal S64x81x81 .f32) (ix3 n p r) = ((-distR (X n) p r : ℝ) : EReal) := by
  unfold res_main_v16
  pointwise
  simp only [tok h, sq h, ← EReal.coe_mul, coe_sum, ofBits_two, ← EReal.coe_add, ← EReal.coe_sub]
  rw [← EReal.coe_zero, coe_max, coe_sqrt (le_max_right _ _), ← EReal.coe_neg]
  rfl

theorem along3 (n : Fin 64) (p r k : Fin 81) : (ix3 n p r : S64x81x81.Idx).along 2 k = ix3 n p k := by
  funext a
  fin_cases a <;> rfl

/-- The places of the greatest nine of a row of negated distances. -/
theorem topK_row (x : FVec Ideal S64x81x81 .f32) (n : Fin 64) (p : Fin 81) (D : Fin 81 → ℝ) (hx : ∀ r, x (ix3 n p r) = ((-D r : ℝ) : EReal)) (j : Fin 9) :
    (Host.topK S64x81x9 2 (FloatOps.cmpfTotal .gt) x sliceFits_S64x81x81_S64x81x9).2 (ix3 n p j) = BitVec.ofNat 32 (near D ⟨j.val, by omega⟩).val := by
  unfold Host.topK Host.sort2
  dsimp only
  rw [dif_pos (show 2 < S64x81x81.rank by decide)]
  pointwise
  have hc : (fun k k' : Fin 81 => FloatOps.cmpfTotal CmpDirection.gt (x (ix3 n p k)) (x (ix3 n p k')) == 1#1)
      = fun k k' => decide (D k < D k') := by
    funext k k'
    rw [hx, hx]
    show (BitVec.ofBool (decide (((-D k' : ℝ) : EReal) < ((-D k : ℝ) : EReal))) == 1#1) = _
    have e : decide (((-D k' : ℝ) : EReal) < ((-D k : ℝ) : EReal)) = decide (D k < D k') :=
      decide_eq_decide.mpr (EReal.coe_lt_coe_iff.trans neg_lt_neg_iff)
    rw [e]
    cases decide (D k < D k') <;> rfl
  rw [near_def, ← hc]
  have ha : ∀ r k : Fin 81, (ix3 n p r : S64x81x81.Idx).along 2 k = ix3 n p k := fun r k => along3 n p r k
  simp only [ha]
  rfl

/-- The places of the nine nearest tokens. -/
theorem ind (h : IsReal V0 X P G B) (n : Fin 64) (p : Fin 81) (j : Fin 9) :
    (res_main_indices V0 : IVec S64x81x9 32) (ix3 n p j) = BitVec.ofNat 32 (nb (X n) p j).val := by
  unfold res_main_indices
  exact topK_row _ n p _ (negDist h n p) j

/-- The operand's index a gathered element is read at. -/
theorem gather_idx (idx : IVec S64x81x9x1 32) (n : Fin 64) (p : Fin 81) (j : Fin 9) (c : Fin 768) (r : Fin 81)
    (h : idx (ix4 n p j 0) = BitVec.ofNat 32 r.val) :
    gather_S64x81x768_S64x81x9x1_S64x81x9x768_3_1_0_0_1_3_11768.operandIdx (ix4 n p j c) idx = ix3 n r c := by
  have hs : gather_S64x81x768_S64x81x9x1_S64x81x9x768_3_1_0_0_1_3_11768.siIdx (ix4 n p j c) ⟨0, by decide⟩ = ix4 n p j 0 := by
    funext a
    fin_cases a <;> rfl
  funext a
  refine Fin.ext ?_
  fin_cases a
  · show 0 + n.val + 0 = n.val
    omega
  · show min (idx (gather_S64x81x768_S64x81x9x1_S64x81x9x768_3_1_0_0_1_3_11768.siIdx (ix4 n p j c) ⟨0, by decide⟩)).toInt.toNat (81 - 1) + 0 + 0 = r.val
    rw [hs, h, toInt_fin (by norm_num) r]
    have := r.isLt
    omega
  · show 0 + 0 + c.val = c.val
    omega

/-- The nearest tokens. -/
theorem nbr (h : IsReal V0 X P G B) (n : Fin 64) (p : Fin 81) (j : Fin 9) (c : Fin 768) :
    (res_main_v23 V0 : FVec Ideal S64x81x9x768 .f32) (ix4 n p j c) = (X n c (nb (X n) p j) : EReal) := by
  unfold res_main_v23
  show (res_main_v1 V0 : FVec Ideal S64x81x768 .f32) (GatherDims.operandIdx _ (ix4 n p j c) _) = _
  rw [gather_idx _ n p j c (nb (X n) p j) ?_, tok h]
  pointwise
  rw [ind h]
  have hn : IntOp.cmpi CmpIPredicate.slt (BitVec.ofNat 32 (nb (X n) p j).val) 0#32 = BitVec.ofBool false := by
    show BitVec.ofBool (BitVec.slt _ _) = _
    rw [BitVec.slt_eq_decide, toInt_fin (by norm_num) (nb (X n) p j)]
    congr 1
  rw [hn, select_bool]
  exact if_neg Bool.false_ne_true

/-- Query plus key. -/
theorem qk (h : IsReal V0 X P G B) (n : Fin 64) (p : Fin 81) (j : Fin 9) (c : Fin 768) :
    (res_main_v36 V0 : FVec Ideal S64x81x9x768 .f32) (ix4 n p j c)
      = ((projR P.Wq P.bq (X n) c p + projR P.Wk P.bk (X n) c (nb (X n) p j) : ℝ) : EReal) := by
  have h1 := h.wq; have h2 := h.bq; have h3 := h.wk; have h4 := h.bk
  unfold A1 at h1; unfold A2 at h2; unfold A3 at h3; unfold A4 at h4
  unfold res_main_v36
  pointwise
  simp only [tok h, nbr h, h1, h2, h3, h4, ← EReal.coe_mul, coe_sum, ← EReal.coe_add]
  refine EReal.coe_eq_coe_iff.mpr ?_
  unfold projR
  simp only [mul_comm]

/-- The scores. -/
theorem scr (h : IsReal V0 X P G B) (n : Fin 64) (p : Fin 81) (j : Fin 9) (hd : Fin 4) :
    (res_main_v42 V0 : FVec Ideal S64x81x9x4 .f32) (ix4 n p j hd) = (scoresR P (X n) hd p j : EReal) := by
  have h1 := h.a
  unfold A7 at h1
  unfold res_main_v42
  pointwise
  have e : ∀ (x : Fin 192) (pf : hd.val * 192 + x.val < 768), (⟨hd.val * 192 + x.val, pf⟩ : Fin 768) = chan hd x := fun x _ =>
    Fin.ext (by simp only [chan]; omega)
  have hc : id (constant (F := Ideal) S_ FTy.f32 0x3E4CCCCD#32) ix0 = (slope : EReal) := ofBits_slope
  have hl : ∀ t : ℝ, (if (0 : EReal) ≤ (t : EReal) then (t : EReal) else ((slope * t : ℝ) : EReal)) = (leakyR t : EReal) := fun t => by
    unfold leakyR
    by_cases ht : 0 ≤ t
    · rw [if_pos ht, if_pos (EReal.coe_nonneg.mpr ht)]
    · rw [if_neg ht, if_neg fun e => ht (EReal.coe_nonneg.mp e)]
  simp only [qk h, h1, hc, e, ← EReal.coe_mul, hl, coe_sum]
  rfl

/-- The greatest of nine is at most what each of the nine is. -/
theorem top_le (s : Fin 9 → ℝ) (M : EReal) (h : ∀ j, (s j : EReal) ≤ M) : (topR s : EReal) ≤ M := by
  unfold topR
  simp only [← coe_max, max_le_iff, h, and_self]
theorem le_top9 (s : Fin 9 → ℝ) (j : Fin 9) : s j ≤ topR s := by
  unfold topR
  fin_cases j <;> simp

/-- The greatest over the neighbours' axis. -/
theorem fold_top (v : FVec Ideal S64x81x9x4 .f32) (s : Fin 9 → ℝ) (n : Fin 64) (p : Fin 81) (hd : Fin 4)
    (hv : ∀ j, v (ix4 n p j hd) = (s j : EReal)) :
    Finset.fold max (⊥ : EReal) v {i | reducesTo_S64x81x9x4_S64x81x4_d2.drop i = ix3 n p hd} = (topR s : EReal) := by
  refine le_antisymm ((Finset.fold_max_le _).mpr ⟨bot_le, fun i hi => ?_⟩) (top_le s _ fun j => (Finset.le_fold_max _).mpr (.inr ⟨ix4 n p j hd, ?_, (hv j).ge⟩))
  · have h := (Finset.mem_filter.mp hi).2
    have h0 : i 0 = n := congrFun h 0
    have h1 : i 1 = p := congrFun h 1
    have h3 : i 3 = hd := congrFun h 2
    have e : i = ix4 n p (i 2) hd := by
      refine (eq_ix4 i).trans ?_
      rw [h0, h1, h3]; rfl
    rw [e]
    exact (hv (i 2)).trans_le (EReal.coe_le_coe_iff.mpr (le_top9 s (i 2)))
  · refine Finset.mem_filter.mpr ⟨Finset.mem_univ _, ?_⟩
    funext a
    fin_cases a <;> rfl

/-- The exponentials of the scores less their greatest. -/
theorem exs (h : IsReal V0 X P G B) (n : Fin 64) (p : Fin 81) (j : Fin 9) (hd : Fin 4) :
    (res_main_v49 V0 : FVec Ideal S64x81x9x4 .f32) (ix4 n p j hd) = (expR (scoresR P (X n) hd p) j : EReal) := by
  unfold res_main_v49
  pointwise
  rw [ofBits_bot, scr h]
  refine (congrArg (fun m : EReal => Ideal.exp ((scoresR P (X n) hd p j : EReal) - max ⊥ m))
    (fold_top (res_main_v42 V0) _ n p hd (fun j => scr h n p j hd))).trans ?_
  beta_reduce
  rw [max_eq_right bot_le, ← EReal.coe_sub, Ideal.exp_coe]
  rfl

/-- A projection with its products the other way round. -/
theorem projR_comm (W : Fin 768 → Fin 768 → ℝ) (b : Fin 768 → ℝ) (Y : Fin 768 → Fin 81 → ℝ) (c : Fin 768) (p : Fin 81) :
    ∑ k, Y k p * W c k + b c = projR W b Y c p := by
  unfold projR
  simp only [mul_comm]

/-- The token at row `y` and column `z`. -/
def tk (y z : Fin 9) : Fin 81 := ⟨y.val * 9 + z.val, by omega⟩

/-- The attention output. -/
theorem out (h : IsReal V0 X P G B) (n : Fin 64) (c : Fin 768) (y z : Fin 9) :
    (res_main_v66 V0 : FVec Ideal S64x768x9x9 .f32) (ix4 n c y z) = (outR P (X n) c (tk y z) : EReal) := by
  have h1 := h.wv; have h2 := h.bv
  unfold A5 at h1; unfold A6 at h2
  unfold res_main_v66
  pointwise
  have e : ∀ pf : y.val * 9 + z.val < 81, (⟨y.val * 9 + z.val, pf⟩ : Fin 81) = tk y z := fun _ => rfl
  simp only [e, nbr h, h1, h2, exs h, ← EReal.coe_mul, coe_sum, ← EReal.coe_add]
  simp only [coe_div _ (sum_exp_pos _).ne', ← EReal.coe_mul, coe_sum, projR_comm]
  rfl

/-- A channel's outputs over samples and tokens. -/
def chanOut (P : Par) (X : Fin 64 → Fin 768 → Fin 81 → ℝ) (c : Fin 768) (n : Fin 64) (p : Fin 81) : ℝ := outR P (X n) c p

/-- A sum over rows and columns is a sum over tokens. -/
theorem sum_tk (f : Fin 81 → ℝ) : ∑ y : Fin 9, ∑ z : Fin 9, f (tk y z) = ∑ p, f p := by
  rw [← Fintype.sum_prod_type' fun (y : Fin 9) (z : Fin 9) => f (tk y z)]
  refine Fintype.sum_equiv (finProdFinEquiv (m := 9) (n := 9)) _ f fun x => ?_
  congr 1
  simp [tk, Fin.ext_iff, finProdFinEquiv]
  omega

/-- A channel's sum over samples, rows and columns. -/
theorem sum_chan3 (v : FVec Ideal S64x768x9x9 .f32) (c : Fin 768) (f : Fin 64 → Fin 81 → ℝ)
    (hv : ∀ n y z, v (ix4 n c y z) = (f n (tk y z) : EReal)) :
    Ideal.hostReduceAdd reducesTo_S64x768x9x9_S768_d0_2_3 v 0 (ix1 c) = ((∑ n, ∑ p, f n p : ℝ) : EReal) := by
  have e : (∑ i ∈ Finset.univ.filter (fun i => reducesTo_S64x768x9x9_S768_d0_2_3.drop i = ix1 c), v i)
      = ∑ t : Fin 64 × Fin 9 × Fin 9, ((f t.1 (tk t.2.1 t.2.2) : ℝ) : EReal) := by
    refine Finset.sum_nbij' (fun i => (i 0, i 2, i 3)) (fun t => ix4 t.1 c t.2.1 t.2.2) (fun _ _ => Finset.mem_univ _) (fun t _ => ?_) (fun i hi => ?_)
      (fun _ _ => rfl) (fun i hi => ?_)
    · refine Finset.mem_filter.mpr ⟨Finset.mem_univ _, ?_⟩
      funext a
      fin_cases a; rfl
    · have h1 : i 1 = c := congrFun (Finset.mem_filter.mp hi).2 0
      refine Eq.symm ((eq_ix4 i).trans ?_)
      rw [h1]
    · have h1 : i 1 = c := congrFun (Finset.mem_filter.mp hi).2 0
      rw [← hv]
      refine congrArg v ((eq_ix4 i).trans ?_)
      rw [h1]
  show (0 : EReal) + _ = _
  rw [zero_add]
  refine e.trans ?_
  rw [coe_sum]
  refine EReal.coe_eq_coe_iff.mpr ?_
  rw [Fintype.sum_prod_type]
  refine Finset.sum_congr rfl fun n _ => ?_
  rw [Fintype.sum_prod_type]
  exact sum_tk (f n)

/-- Output less its channel's mean. -/
theorem dev (h : IsReal V0 X P G B) (n : Fin 64) (c : Fin 768) (y z : Fin 9) :
    (res_main_call1_v5 V0 : FVec Ideal S64x768x9x9 .f32) (ix4 n c y z)
      = ((outR P (X n) c (tk y z) - meanR (chanOut P X c) : ℝ) : EReal) := by
  unfold res_main_call1_v5
  pointwise
  rw [sum_chan3 _ c (chanOut P X c) (fun n y z => out h n c y z), out h, ofBits_count, coe_div _ (by norm_num), ← EReal.coe_sub]
  rfl

/-- The number of tokens, as the variance's divisor. -/
theorem cnt : (res_main_call1_v8 V0 : FVec Ideal S_ .f32) ix0 = ((5184 : ℝ) : EReal) := by
  unfold res_main_call1_v8
  pointwise
  have e : (FloatOps.sitofp .f32 (0#32 : BitVec 32) : Ideal .f32) = ((0 : ℝ) : EReal) := by
    show ((((0#32 : BitVec 32).toInt : ℤ) : ℝ) : EReal) = _
    rw [show (0#32 : BitVec 32).toInt = 0 from rfl]; norm_num
  rw [ofBits_count, e, ← EReal.coe_sub]
  norm_num

/-- The reference's result at an element. -/
theorem result (h : IsReal V0 X P G B) (n : Fin 64) (c : Fin 768) (y z : Fin 9) :
    (val2 V0 (Proc.devRef .tc main_v87) : FVec Ideal S64x768x9x9 .f32) (ix4 n c y z)
      = (resR (chanOut P X c) (G c) (B c) (outR P (X n) c (tk y z)) (X n c (tk y z)) : EReal) := by
  have h1 := h.x; have h2 := h.g; have h3 := h.b
  unfold A0 at h1; unfold A8 at h2; unfold A9 at h3
  rw [val2_main_v87]
  pointwise
  have hx : (V0 (Proc.devRef .tc main_arg0) : FVec Ideal S64x768x9x9 .f32) (ix4 n c y z) = (X n c (tk y z) : EReal) := by
    rw [← h1 n c (tk y z)]
    congr 2
    · exact Fin.ext (by simp [tk]; omega)
    · exact Fin.ext (by simp [tk]; omega)
  have hv := sum_chan3 (mulf (res_main_call1_v5 V0) (res_main_call1_v5 V0) : FVec Ideal S64x768x9x9 .f32) c
    (fun n p => (outR P (X n) c p - meanR (chanOut P X c)) * (outR P (X n) c p - meanR (chanOut P X c))) (fun n y z => by
      pointwise
      rw [dev h, ← EReal.coe_mul])
  rw [sum_chan3 _ c (chanOut P X c) (fun n y z => out h n c y z), out h, ofBits_count, coe_div _ (by norm_num), ← EReal.coe_sub,
    hv, cnt, if_pos (EReal.coe_pos.mpr (by norm_num)), coe_div _ (by norm_num), ofBits_small, ← EReal.coe_add]
  have hp : 0 < varR (chanOut P X c) + small := add_pos_of_nonneg_of_pos (varR_nonneg _) small_pos
  have e : (∑ n, ∑ p, (outR P (X n) c p - meanR (chanOut P X c)) * (outR P (X n) c p - meanR (chanOut P X c))) / 5184 = varR (chanOut P X c) := rfl
  rw [e, coe_sqrt hp.le, coe_div _ (Real.sqrt_pos.mpr hp).ne', h2, h3, hx, ← EReal.coe_mul, ← EReal.coe_add, ← EReal.coe_add, ← EReal.coe_zero, coe_max]
  rfl

end Cert.Ref

end
-- ==== Proof.Finite.lean ====
/-
  The precondition read back: every entry of every argument is a real.
-/
module

public import proofs.«01_k».proof.Pre_finite
public import proofs.«01_k».proof.Proof.Reals
public import Idealize.ShloMosaic.Lib.ReduceAll

@[expose] public section

set_option maxHeartbeats 1000000

noncomputable section

namespace Cert.Finite

open Cert.Pre_finite Cert.Reals
open Idealize.ShloMosaic

/-- The shape relations the precondition's operations take. -/
theorem facts : Cert.Pre_finite.Facts where
  bcast_S_S64x768x9x9 := by decide
  reducesTo_S64x768x9x9_S_d0_1_2_3 := by decide
  h_S_ := by decide
  bcast_S_S768x768 := by decide
  reducesTo_S768x768_S_d0_1 := by decide
  bcast_S_S768 := by decide
  reducesTo_S768_S_d0 := by decide
  bcast_S_S4x192 := by decide
  reducesTo_S4x192_S_d0_1 := by decide

/-- The scalar shape has one index. -/
theorem one_index : Subsingleton S_.Idx := ⟨fun a b => funext fun d => d.elim0⟩

/-- An extended real whose absolute value is below the infinity is a real. -/
theorem real_of_lt (x : EReal) (h : max x (-x) < ⊤) : x = (x.toReal : EReal) := by
  have hx : x ≠ ⊤ := fun e => absurd h (by simp [e])
  have hy : x ≠ ⊥ := fun e => absurd h (by simp [e])
  exact (EReal.coe_toReal hx hy).symm

/-- One argument's test: when the test's one bit is set, every entry is a real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : x i = ((x i : EReal).toReal : EReal) := by
  haveI := one_index
  have h1 := Host.reduce_andi_all _ _ hr hu j h i
  have h2 : Ideal.cmp .olt (max (x i : EReal) (-(x i : EReal))) (Ideal.ofBits .f32 0x7F800000#32) = 1#1 := h1
  rw [ofBits_top] at h2
  exact real_of_lt _ ((Ideal.cmp_olt_eq_one _ _).1 h2)

variable (x0 : FVec Ideal S64x768x9x9 .f32) (x1 : FVec Ideal S768x768 .f32) (x2 : FVec Ideal S768 .f32) (x3 : FVec Ideal S768x768 .f32)
  (x4 : FVec Ideal S768 .f32) (x5 : FVec Ideal S768x768 .f32) (x6 : FVec Ideal S768 .f32) (x7 : FVec Ideal S4x192 .f32)
  (x8 : FVec Ideal S768 .f32) (x9 : FVec Ideal S768 .f32)

/-- The precondition makes every entry of every argument a real. -/
theorem real (h : (haveI := facts; fn (F := Ideal) x0 x1 x2 x3 x4 x5 x6 x7 x8 x9) = fun _ => 1#1) :
    (∀ i, x0 i = ((x0 i : EReal).toReal : EReal)) ∧ (∀ i, x1 i = ((x1 i : EReal).toReal : EReal))
    ∧ (∀ i, x2 i = ((x2 i : EReal).toReal : EReal)) ∧ (∀ i, x3 i = ((x3 i : EReal).toReal : EReal))
    ∧ (∀ i, x4 i = ((x4 i : EReal).toReal : EReal)) ∧ (∀ i, x5 i = ((x5 i : EReal).toReal : EReal))
    ∧ (∀ i, x6 i = ((x6 i : EReal).toReal : EReal)) ∧ (∀ i, x7 i = ((x7 i : EReal).toReal : EReal))
    ∧ (∀ i, x8 i = ((x8 i : EReal).toReal : EReal)) ∧ (∀ i, x9 i = ((x9 i : EReal).toReal : EReal)) := by
  have j : S_.Idx := fun d => d.elim0
  have e := congrFun h j
  dsimp only [fn, fn_part1, fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨_, e0⟩ := IntOp.andi_eq_one.1 e
  exact ⟨all_real x0 _ _ _ j e0, all_real x1 _ _ _ j e1, all_real x2 _ _ _ j e2, all_real x3 _ _ _ j e3, all_real x4 _ _ _ j e4,
    all_real x5 _ _ _ j e5, all_real x6 _ _ _ j e6, all_real x7 _ _ _ j e7, all_real x8 _ _ _ j e8, all_real x9 _ _ _ j e9⟩

end Cert.Finite

end
-- ==== Proof.Alg.lean ====
/-
  The two programs over the extended reals with real arguments end with one result.
-/
module

public import proofs.«01_k».proof.Proof.KVal
public import proofs.«01_k».proof.Proof.RefVal
public import proofs.«01_k».proof.Proof.Finite
public import proofs.«01_k».proof.Defs

@[expose] public section

set_option maxHeartbeats 1000000

noncomputable section

namespace Cert.Alg

open Cert.Spec Cert.KernelIdeal.Body
open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (c : Dev Cert.KernelIdeal.nD)

/-- The samples as reals, tokens on one axis. -/
def X (n : Fin 64) (k : Fin 768) (p : Fin 81) : ℝ := (arg0 m c (ix4 n k ⟨p.val / 9, by omega⟩ ⟨p.val % 9, by omega⟩) : EReal).toReal
/-- The parameters as reals. -/
def P : Par where
  Wq k l := (arg1 m c (ix2 k l) : EReal).toReal
  bq k := (arg2 m c (ix1 k) : EReal).toReal
  Wk k l := (arg3 m c (ix2 k l) : EReal).toReal
  bk k := (arg4 m c (ix1 k) : EReal).toReal
  Wv k l := (arg5 m c (ix2 k l) : EReal).toReal
  bv k := (arg6 m c (ix1 k) : EReal).toReal
  a h d := (arg7 m c (ix2 h d) : EReal).toReal
/-- The normalisation's scale as reals. -/
def G (k : Fin 768) : ℝ := (arg8 m c (ix1 k) : EReal).toReal
/-- The normalisation's shift as reals. -/
def B (k : Fin 768) : ℝ := (arg9 m c (ix1 k) : EReal).toReal

/-- Under the precondition the kernel's arguments are these reals. -/
theorem isReal (h : Cert.Pre_KernelIdeal_finite (hPre_finite := Cert.Finite.facts) m) : Cert.KernelIdeal.Body.IsReal m c (X m c) (P m c) (G m c) (B m c) := by
  obtain ⟨h0, h1, h2, h3, h4, h5, h6, h7, h8, h9⟩ := Cert.Finite.real _ _ _ _ _ _ _ _ _ _ (h c)
  exact ⟨fun n k p => h0 _, fun k l => h1 _, fun k => h2 _, fun k l => h3 _, fun k => h4 _, fun k l => h5 _, fun k => h6 _, fun a d => h7 _,
    fun k => h8 _, fun k => h9 _⟩

/-- Real arguments of the kernel are real arguments of the reference launched with the same. -/
theorem isRealR (V0 : Valuation Cert.ReferenceIdeal.τ Cert.ReferenceIdeal.sig (Elt Ideal))
    {X : Fin 64 → Fin 768 → Fin 81 → ℝ} {P : Par} {G B : Fin 768 → ℝ} (h : Cert.KernelIdeal.Body.IsReal m c X P G B)
    (e0 : Cert.Ref.A0 V0 = arg0 m c) (e1 : Cert.Ref.A1 V0 = arg1 m c) (e2 : Cert.Ref.A2 V0 = arg2 m c) (e3 : Cert.Ref.A3 V0 = arg3 m c)
    (e4 : Cert.Ref.A4 V0 = arg4 m c) (e5 : Cert.Ref.A5 V0 = arg5 m c) (e6 : Cert.Ref.A6 V0 = arg6 m c) (e7 : Cert.Ref.A7 V0 = arg7 m c)
    (e8 : Cert.Ref.A8 V0 = arg8 m c) (e9 : Cert.Ref.A9 V0 = arg9 m c) : Cert.Ref.IsReal V0 X P G B where
  x n k p := (congrFun e0 _).trans (h.x n k p)
  wq k l := (congrFun e1 _).trans (h.wq k l)
  bq k := (congrFun e2 _).trans (h.bq k)
  wk k l := (congrFun e3 _).trans (h.wk k l)
  bk k := (congrFun e4 _).trans (h.bk k)
  wv k l := (congrFun e5 _).trans (h.wv k l)
  bv k := (congrFun e6 _).trans (h.bv k)
  a i d := (congrFun e7 _).trans (h.a i d)
  g k := (congrFun e8 _).trans (h.g k)
  b k := (congrFun e9 _).trans (h.b k)

/-- The reference's result is the kernel's. -/
theorem same (V0 : Valuation Cert.ReferenceIdeal.τ Cert.ReferenceIdeal.sig (Elt Ideal))
    {X : Fin 64 → Fin 768 → Fin 81 → ℝ} {P : Par} {G B : Fin 768 → ℝ} (h : Cert.KernelIdeal.Body.IsReal m c X P G B) (h' : Cert.Ref.IsReal V0 X P G B) :
    (Cert.ReferenceIdeal.Value.val2 V0 (Proc.devRef .tc Cert.ReferenceIdeal.main_v87) : FVec Ideal Cert.ReferenceIdeal.S64x768x9x9 .f32)
      = (U5 m c (Proc.devRef .tc Cert.KernelIdeal.main_v26) : FVec Ideal Cert.KernelIdeal.S64x768x9x9 .f32) := by
  funext i
  rw [eq_ix4 i]
  exact (Cert.Ref.result h' _ _ _ _).trans (Cert.KernelIdeal.Body.result h _ _ _ _).symm

/-- Launched with the same real arguments the kernel and the reference end with the same result, each with its arguments unchanged. -/
theorem alg : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨fun c => U5 m c (Proc.devRef .tc Cert.KernelIdeal.main_v26), ?_, ?_⟩
  · refine (θ_run _ _ _).mono (fun r h c => ?_) (run_all (F := Ideal) m g)
    exact ⟨end_at m (h.1 c) _ (by decide), end_arg m (h.1 c) _ (by decide) (by decide), end_arg m (h.1 c) _ (by decide) (by decide),
      end_arg m (h.1 c) _ (by decide) (by decide), end_arg m (h.1 c) _ (by decide) (by decide), end_arg m (h.1 c) _ (by decide) (by decide),
      end_arg m (h.1 c) _ (by decide) (by decide), end_arg m (h.1 c) _ (by decide) (by decide), end_arg m (h.1 c) _ (by decide) (by decide),
      end_arg m (h.1 c) _ (by decide) (by decide), end_arg m (h.1 c) _ (by decide) (by decide)⟩
  · refine (θ_run _ _ _).mono (fun r h c => ?_) (Cert.ReferenceIdeal.Value.run (F := Ideal) m' g')
    obtain ⟨a0, a1, a2, a3, a4, a5, a6, a7, a8, a9⟩ := hargs c
    refine ⟨(h c).1.trans ((Cert.ReferenceIdeal.Value.val2_main_v87 (launchContents m' c)).symm.trans ?_), (h c).2⟩
    exact same m c (launchContents m' c) (isReal m c hpre)
      (isRealR m c (launchContents m' c) (isReal m c hpre) a0 a1 a2 a3 a4 a5 a6 a7 a8 a9)

end Cert.Alg

end
-- ==== Proof.lean ====
/- The claims' proof: the frames from the runs of the programs, the named constant from its rule, the value claim from the two results. -/
module

public import proofs.«01_k».proof.Defs
public import proofs.«01_k».proof.Proof.Gen.Kernel
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.RunI
public import proofs.«01_k».proof.Proof.Alg
public import Idealize.ShloMosaic.Adequacy
public import Idealize.ShloMosaic.Init

@[expose] public section

noncomputable section

namespace Cert.Proof

open Idealize.ShloMosaic Idealize.SL.Sem

/-- The kernel runs at the machine's words, its arguments unchanged. -/
theorem runs : Cert.quiescent_Kernel (hKernel := Cert.Kernel.Gen.facts) := fun m g _ => Cert.Kernel.Body.frame_all (F := Bits) m g
/-- The idealised kernel runs, its arguments unchanged. -/
theorem runsI : Cert.quiescent_KernelIdeal (hKernelIdeal := Cert.KernelIdeal.Gen.facts) := fun m g _ => Cert.KernelIdeal.Body.frame_all (F := Ideal) m g

/-- The reference runs, its arguments unchanged, every semaphore at zero. -/
theorem runsR : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The claims. -/
theorem claim : Cert.Claim := ⟨Cert.Kernel.Gen.facts, Cert.KernelIdeal.Gen.facts, Cert.ReferenceIdeal.Gen.facts, Cert.Finite.facts,
  runs, runsI, fun m g _ => runsI m g trivial, runsR, fun m g _ => runsR m g trivial,
  IdealRules.named_const.statement Cert.KernelIdeal.κ "big" .f32 0x7F61B1E6#32 ⊤ rfl, Cert.Alg.alg⟩

end Cert.Proof

end
